-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
-- ==== Pre_bounded_KernelIdeal.lean ====
abbrev S4096x1024 : Shape := ⟨2, ![4096, 1024]⟩
abbrev S4096x2048 : Shape := ⟨2, ![4096, 2048]⟩
abbrev S1 : Shape := ⟨1, ![1]⟩
abbrev S_ : Shape := ⟨0, ![]⟩
abbrev S4096 : Shape := ⟨1, ![4096]⟩
abbrev S4x1024x2048 : Shape := ⟨3, ![4, 1024, 2048]⟩
abbrev S4x2048 : Shape := ⟨2, ![4, 2048]⟩
abbrev S4096x1x1 : Shape := ⟨3, ![4096, 1, 1]⟩
abbrev S1x4x2048 : Shape := ⟨3, ![1, 4, 2048]⟩
abbrev S4096x4x2048 : Shape := ⟨3, ![4096, 4, 2048]⟩

class Facts : Prop where
  bcast_S_S4096x1024 : S_.BroadcastsInDim S4096x1024 (![] : Fin 0 → Fin S4096x1024.rank)
  reducesTo_S4096x1024_S4096_d1 : S4096x1024.ReducesTo [1] S4096
  h_S_ : 0 < S_.numel
  shapeCasts_S4096x2048_S4x1024x2048 : S4096x2048.ShapeCasts S4x1024x2048
  bcast_S_S4x1024x2048 : S_.BroadcastsInDim S4x1024x2048 (![] : Fin 0 → Fin S4x1024x2048.rank)
  reducesTo_S4x1024x2048_S4x2048_d1 : S4x1024x2048.ReducesTo [1] S4x2048
  bcast_S4096_S4096x1x1_0 : S4096.BroadcastsInDim S4096x1x1 (![0] : Fin 1 → Fin S4096x1x1.rank)
  bcast_S4x2048_S1x4x2048_1_2 : S4x2048.BroadcastsInDim S1x4x2048 (![1, 2] : Fin 2 → Fin S1x4x2048.rank)
  bcast_S4096x1x1_S4096x4x2048_0_1_2 : S4096x1x1.BroadcastsInDim S4096x4x2048 (![0, 1, 2] : Fin 3 → Fin S4096x4x2048.rank)
  bcast_S1x4x2048_S4096x4x2048_0_1_2 : S1x4x2048.BroadcastsInDim S4096x4x2048 (![0, 1, 2] : Fin 3 → Fin S4096x4x2048.rank)

variable [Facts]

def fn {F : FTy → Type} [FloatOps F] (main_arg0 : IVec S4096x1024 8) (main_arg1 : IVec S4096x2048 8) (main_arg2 : FVec F S1 .f32) (main_arg3 : FVec F S1 .f32) : IVec S4096x4x2048 1 :=
  let main_c : IVec S_ 8 := constantI S_ 8 128#8
  let main_v0 : IVec S4096x1024 8 := broadcastInDim S4096x1024 ![] bcast_S_S4096x1024 main_c
  let main_v1 : IVec S4096x1024 1 := cmpi .ne main_arg0 main_v0
  let main_c_0 : IVec S_ 1 := constantI S_ 1 0#1
  let main_v2 : IVec S4096 1 := (fun x v => Host.reduce IntOp.ori x v reducesTo_S4096x1024_S4096_d1 h_S_) main_v1 main_c_0
  let main_v3 : IVec S4x1024x2048 8 := shapeCast S4x1024x2048 main_arg1 shapeCasts_S4096x2048_S4x1024x2048
  let main_c_1 : IVec S_ 8 := constantI S_ 8 128#8
  let main_v4 : IVec S4x1024x2048 8 := broadcastInDim S4x1024x2048 ![] bcast_S_S4x1024x2048 main_c_1
  let main_v5 : IVec S4x1024x2048 1 := cmpi .ne main_v3 main_v4
  let main_c_2 : IVec S_ 1 := constantI S_ 1 0#1
  let main_v6 : IVec S4x2048 1 := (fun x v => Host.reduce IntOp.ori x v reducesTo_S4x1024x2048_S4x2048_d1 h_S_) main_v5 main_c_2
  let main_v7 : IVec S4096x1x1 1 := broadcastInDim S4096x1x1 ![0] bcast_S4096_S4096x1x1_0 main_v2
  let main_v8 : IVec S1x4x2048 1 := broadcastInDim S1x4x2048 ![1, 2] bcast_S4x2048_S1x4x2048_1_2 main_v6
  let main_v9 : IVec S4096x4x2048 1 := broadcastInDim S4096x4x2048 ![0, 1, 2] bcast_S4096x1x1_S4096x4x2048_0_1_2 main_v7
  let main_v10 : IVec S4096x4x2048 1 := broadcastInDim S4096x4x2048 ![0, 1, 2] bcast_S1x4x2048_S4096x4x2048_0_1_2 main_v8
  let main_v11 : IVec S4096x4x2048 1 := ori main_v9 main_v10
  main_v11
-- ==== Pre_bounded_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩
abbrev S4x1024x2048 : Shape := ⟨3, ![4, 1024, 2048]⟩
abbrev S4x2048 : Shape := ⟨2, ![4, 2048]⟩
abbrev S4096x1x1 : Shape := ⟨3, ![4096, 1, 1]⟩
abbrev S1x4x2048 : Shape := ⟨3, ![1, 4, 2048]⟩
abbrev S4096x4x2048 : Shape := ⟨3, ![4096, 4, 2048]⟩

class Facts : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  shapeCasts_S4096x2048_S4x1024x2048 : S4096x2048.ShapeCasts S4x1024x2048
  bcast_S_S4x1024x2048 : S_.BroadcastsInDim S4x1024x2048 (![] : Fin 0 → Fin S4x1024x2048.rank)
  reducesTo_S4x1024x2048_S4x2048_d1 : S4x1024x2048.ReducesTo [1] S4x2048
  bcast_S4096_S4096x1x1_0 : S4096.BroadcastsInDim S4096x1x1 (![0] : Fin 1 → Fin S4096x1x1.rank)
  bcast_S4x2048_S1x4x2048_1_2 : S4x2048.BroadcastsInDim S1x4x2048 (![1, 2] : Fin 2 → Fin S1x4x2048.rank)
  bcast_S4096x1x1_S4096x4x2048_0_1_2 : S4096x1x1.BroadcastsInDim S4096x4x2048 (![0, 1, 2] : Fin 3 → Fin S4096x4x2048.rank)
  bcast_S1x4x2048_S4096x4x2048_0_1_2 : S1x4x2048.BroadcastsInDim S4096x4x2048 (![0, 1, 2] : Fin 3 → Fin S4096x4x2048.rank)

variable [Facts]

def fn {F : FTy → Type} [FloatOps F] (main_arg0 : IVec S4096x4096 8) (main_arg1 : IVec S4096x2048 8) (main_arg2 : FVec F S1 .f32) (main_arg3 : FVec F S1 .f32) : IVec S4096x4x2048 1 :=
  let main_c : IVec S_ 8 := constantI S_ 8 128#8
  let main_v0 : IVec S4096x4096 8 := broadcastInDim S4096x4096 ![] bcast_S_S4096x4096 main_c
  let main_v1 : IVec S4096x4096 1 := cmpi .ne main_arg0 main_v0
  let main_c_0 : IVec S_ 1 := constantI S_ 1 0#1
  let main_v2 : IVec S4096 1 := (fun x v => Host.reduce IntOp.ori x v reducesTo_S4096x4096_S4096_d1 h_S_) main_v1 main_c_0
  let main_v3 : IVec S4x1024x2048 8 := shapeCast S4x1024x2048 main_arg1 shapeCasts_S4096x2048_S4x1024x2048
  let main_c_1 : IVec S_ 8 := constantI S_ 8 128#8
  let main_v4 : IVec S4x1024x2048 8 := broadcastInDim S4x1024x2048 ![] bcast_S_S4x1024x2048 main_c_1
  let main_v5 : IVec S4x1024x2048 1 := cmpi .ne main_v3 main_v4
  let main_c_2 : IVec S_ 1 := constantI S_ 1 0#1
  let main_v6 : IVec S4x2048 1 := (fun x v => Host.reduce IntOp.ori x v reducesTo_S4x1024x2048_S4x2048_d1 h_S_) main_v5 main_c_2
  let main_v7 : IVec S4096x1x1 1 := broadcastInDim S4096x1x1 ![0] bcast_S4096_S4096x1x1_0 main_v2
  let main_v8 : IVec S1x4x2048 1 := broadcastInDim S1x4x2048 ![1, 2] bcast_S4x2048_S1x4x2048_1_2 main_v6
  let main_v9 : IVec S4096x4x2048 1 := broadcastInDim S4096x4x2048 ![0, 1, 2] bcast_S4096x1x1_S4096x4x2048_0_1_2 main_v7
  let main_v10 : IVec S4096x4x2048 1 := broadcastInDim S4096x4x2048 ![0, 1, 2] bcast_S1x4x2048_S4096x4x2048_0_1_2 main_v8
  let main_v11 : IVec S4096x4x2048 1 := ori main_v9 main_v10
  main_v11
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S4x1024x1024 : Shape := ⟨3, ![4, 1024, 1024]⟩
abbrev S4x4 : Shape := ⟨2, ![4, 4]⟩
abbrev S4 : Shape := ⟨1, ![4]⟩
abbrev S_ : Shape := ⟨0, ![]⟩
abbrev S1x1 : Shape := ⟨2, ![1, 1]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S512x2048 : Shape := ⟨2, ![512, 2048]⟩
abbrev S256x2048 : Shape := ⟨2, ![256, 2048]⟩

abbrev nBuf : Space → Nat
  | .hbm => 5
  | .vmem => 4
  | .smem => 2
  | _ => 0

abbrev bufTy : (tb : Table) → Fin (tcTables nBuf tb) → BufTy
  | .hbm, ⟨0, _⟩ => ⟨S4096x1024, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .i8⟩
  | .local _ .vmem, ⟨1, _⟩ => ⟨S4096x2048, .i8⟩
  | .local _ .vmem, ⟨2, _⟩ => ⟨S4x1024x1024, .i8⟩
  | .local _ .vmem, ⟨3, _⟩ => ⟨S1024x2048, .f32⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_42 : BitVec 32 := 0#32
  let c0_i32_43 : BitVec 32 := 0#32
  ![v2.toNat, 0, 0]
def k0_off2 (d0 : Dev nD) (c1_i32_28 : BitVec 32) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32 : BitVec 32 := 1024#32
  let v54 : BitVec 32 := Scalar.muli v53 c1024_i32
  let v55 : BitVec 32 := Scalar.addi v54 c0_i32_35
  let c0_i32_44 : BitVec 32 := 0#32
  ![v55.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_40 : BitVec 32 := 1#32
  let v56 : BitVec 32 := Scalar.muli v53 c1_i32_40
  let v57 : BitVec 32 := Scalar.addi c0_i32_41 v56
  v57.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_59 : BitVec 32 := 512#32
  let c0_i32_60 : BitVec 32 := 0#32
  ![v2.toNat, 512, 0]
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v65 : BitVec 32 := Scalar.addi v2 c1_i32_45
  let c4_i32_46 : BitVec 32 := 4#32
  let c0_i32_47 : BitVec 32 := 0#32
  let v66 : BitVec 1 := Scalar.cmpi .eq c4_i32_46 c0_i32_47
  let c1_i32_48 : BitVec 32 := 1#32
  let v67 : BitVec 32 := Scalar.select v66 c1_i32_48 c4_i32_46
  let v68 : BitVec 32 := Scalar.remsi v65 v67
  let c0_i32_50 : BitVec 32 := 0#32
  let v70 : BitVec 1 := Scalar.cmpi .slt v68 c0_i32_50
  let c0_i32_51 : BitVec 32 := 0#32
  let v71 : BitVec 1 := Scalar.cmpi .slt v67 c0_i32_51
  let v72 : BitVec 1 := Scalar.xori v70 v71
  let c0_i32_49 : BitVec 32 := 0#32
  let v69 : BitVec 1 := Scalar.cmpi .ne v68 c0_i32_49
  let v73 : BitVec 1 := Scalar.andi v72 v69
  let v74 : BitVec 32 := Scalar.addi v68 v67
  let v75 : BitVec 32 := Scalar.select v73 v74 v68
  let c1_i32_57 : BitVec 32 := 1#32
  let v78 : BitVec 32 := Scalar.muli v75 c1_i32_57
  let v79 : BitVec 32 := Scalar.addi c0_i32_58 v78
  v79.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_62 : BitVec 32 := 3#32
  let v87 : BitVec 32 := Scalar.addi v2 c3_i32_62
  let c4_i32_63 : BitVec 32 := 4#32
  let c0_i32_64 : BitVec 32 := 0#32
  let v88 : BitVec 1 := Scalar.cmpi .eq c4_i32_63 c0_i32_64
  let c1_i32_65 : BitVec 32 := 1#32
  let v89 : BitVec 32 := Scalar.select v88 c1_i32_65 c4_i32_63
  let v90 : BitVec 32 := Scalar.remsi v87 v89
  let c0_i32_67 : BitVec 32 := 0#32
  let v92 : BitVec 1 := Scalar.cmpi .slt v90 c0_i32_67
  let c0_i32_68 : BitVec 32 := 0#32
  let v93 : BitVec 1 := Scalar.cmpi .slt v89 c0_i32_68
  let v94 : BitVec 1 := Scalar.xori v92 v93
  let c0_i32_66 : BitVec 32 := 0#32
  let v91 : BitVec 1 := Scalar.cmpi .ne v90 c0_i32_66
  let v95 : BitVec 1 := Scalar.andi v94 v91
  let v96 : BitVec 32 := Scalar.addi v90 v89
  let v97 : BitVec 32 := Scalar.select v95 v96 v90
  let c1_i32_75 : BitVec 32 := 1#32
  let v100 : BitVec 32 := Scalar.muli v97 c1_i32_75
  let v101 : BitVec 32 := Scalar.addi c0_i32_76 v100
  v101.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_80 : BitVec 32 := 3#32
  let v109 : BitVec 32 := Scalar.addi v2 c3_i32_80
  let c4_i32_81 : BitVec 32 := 4#32
  let c0_i32_82 : BitVec 32 := 0#32
  let v110 : BitVec 1 := Scalar.cmpi .eq c4_i32_81 c0_i32_82
  let c1_i32_83 : BitVec 32 := 1#32
  let v111 : BitVec 32 := Scalar.select v110 c1_i32_83 c4_i32_81
  let v112 : BitVec 32 := Scalar.remsi v109 v111
  let c0_i32_85 : BitVec 32 := 0#32
  let v114 : BitVec 1 := Scalar.cmpi .slt v112 c0_i32_85
  let c0_i32_86 : BitVec 32 := 0#32
  let v115 : BitVec 1 := Scalar.cmpi .slt v111 c0_i32_86
  let v116 : BitVec 1 := Scalar.xori v114 v115
  let c0_i32_84 : BitVec 32 := 0#32
  let v113 : BitVec 1 := Scalar.cmpi .ne v112 c0_i32_84
  let v117 : BitVec 1 := Scalar.andi v116 v113
  let v118 : BitVec 32 := Scalar.addi v112 v111
  let v119 : BitVec 32 := Scalar.select v117 v118 v112
  let c1_i32_93 : BitVec 32 := 1#32
  let v122 : BitVec 32 := Scalar.muli v119 c1_i32_93
  let v123 : BitVec 32 := Scalar.addi c0_i32_94 v122
  v123.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_113 : BitVec 32 := 0#32
  let c0_i32_114 : BitVec 32 := 0#32
  ![v2.toNat, 0, 0]
def k0_off5 (d0 : Dev nD) (c0_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_98 : BitVec 32 := 2#32
  let v131 : BitVec 32 := Scalar.addi v2 c2_i32_98
  let c4_i32_99 : BitVec 32 := 4#32
  let c0_i32_100 : BitVec 32 := 0#32
  let v132 : BitVec 1 := Scalar.cmpi .eq c4_i32_99 c0_i32_100
  let c1_i32_101 : BitVec 32 := 1#32
  let v133 : BitVec 32 := Scalar.select v132 c1_i32_101 c4_i32_99
  let v134 : BitVec 32 := Scalar.remsi v131 v133
  let c0_i32_103 : BitVec 32 := 0#32
  let v136 : BitVec 1 := Scalar.cmpi .slt v134 c0_i32_103
  let c0_i32_104 : BitVec 32 := 0#32
  let v137 : BitVec 1 := Scalar.cmpi .slt v133 c0_i32_104
  let v138 : BitVec 1 := Scalar.xori v136 v137
  let c0_i32_102 : BitVec 32 := 0#32
  let v135 : BitVec 1 := Scalar.cmpi .ne v134 c0_i32_102
  let v139 : BitVec 1 := Scalar.andi v138 v135
  let v140 : BitVec 32 := Scalar.addi v134 v133
  let v141 : BitVec 32 := Scalar.select v139 v140 v134
  let c1024_i32_105 : BitVec 32 := 1024#32
  let v142 : BitVec 32 := Scalar.muli v141 c1024_i32_105
  let v143 : BitVec 32 := Scalar.addi v142 c0_i32_106
  let c0_i32_115 : BitVec 32 := 0#32
  ![v143.toNat, 0]
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_98 : BitVec 32 := 2#32
  let v131 : BitVec 32 := Scalar.addi v2 c2_i32_98
  let c4_i32_99 : BitVec 32 := 4#32
  let c0_i32_100 : BitVec 32 := 0#32
  let v132 : BitVec 1 := Scalar.cmpi .eq c4_i32_99 c0_i32_100
  let c1_i32_101 : BitVec 32 := 1#32
  let v133 : BitVec 32 := Scalar.select v132 c1_i32_101 c4_i32_99
  let v134 : BitVec 32 := Scalar.remsi v131 v133
  let c0_i32_103 : BitVec 32 := 0#32
  let v136 : BitVec 1 := Scalar.cmpi .slt v134 c0_i32_103
  let c0_i32_104 : BitVec 32 := 0#32
  let v137 : BitVec 1 := Scalar.cmpi .slt v133 c0_i32_104
  let v138 : BitVec 1 := Scalar.xori v136 v137
  let c0_i32_102 : BitVec 32 := 0#32
  let v135 : BitVec 1 := Scalar.cmpi .ne v134 c0_i32_102
  let v139 : BitVec 1 := Scalar.andi v138 v135
  let v140 : BitVec 32 := Scalar.addi v134 v133
  let v141 : BitVec 32 := Scalar.select v139 v140 v134
  let c1_i32_111 : BitVec 32 := 1#32
  let v144 : BitVec 32 := Scalar.muli v141 c1_i32_111
  let v145 : BitVec 32 := Scalar.addi c0_i32_112 v144
  v145.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_130 : BitVec 32 := 256#32
  let c0_i32_131 : BitVec 32 := 0#32
  ![v2.toNat, 256, 0]
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_116 : BitVec 32 := 2#32
  let v153 : BitVec 32 := Scalar.addi v2 c2_i32_116
  let c4_i32_117 : BitVec 32 := 4#32
  let c0_i32_118 : BitVec 32 := 0#32
  let v154 : BitVec 1 := Scalar.cmpi .eq c4_i32_117 c0_i32_118
  let c1_i32_119 : BitVec 32 := 1#32
  let v155 : BitVec 32 := Scalar.select v154 c1_i32_119 c4_i32_117
  let v156 : BitVec 32 := Scalar.remsi v153 v155
  let c0_i32_121 : BitVec 32 := 0#32
  let v158 : BitVec 1 := Scalar.cmpi .slt v156 c0_i32_121
  let c0_i32_122 : BitVec 32 := 0#32
  let v159 : BitVec 1 := Scalar.cmpi .slt v155 c0_i32_122
  let v160 : BitVec 1 := Scalar.xori v158 v159
  let c0_i32_120 : BitVec 32 := 0#32
  let v157 : BitVec 1 := Scalar.cmpi .ne v156 c0_i32_120
  let v161 : BitVec 1 := Scalar.andi v160 v157
  let v162 : BitVec 32 := Scalar.addi v156 v155
  let v163 : BitVec 32 := Scalar.select v161 v162 v156
  let c1_i32_128 : BitVec 32 := 1#32
  let v166 : BitVec 32 := Scalar.muli v163 c1_i32_128
  let v167 : BitVec 32 := Scalar.addi c0_i32_129 v166
  v167.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_148 : BitVec 32 := 512#32
  let c0_i32_149 : BitVec 32 := 0#32
  ![v2.toNat, 512, 0]
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v175 : BitVec 32 := Scalar.addi v2 c2_i32_133
  let c4_i32_134 : BitVec 32 := 4#32
  let c0_i32_135 : BitVec 32 := 0#32
  let v176 : BitVec 1 := Scalar.cmpi .eq c4_i32_134 c0_i32_135
  let c1_i32_136 : BitVec 32 := 1#32
  let v177 : BitVec 32 := Scalar.select v176 c1_i32_136 c4_i32_134
  let v178 : BitVec 32 := Scalar.remsi v175 v177
  let c0_i32_138 : BitVec 32 := 0#32
  let v180 : BitVec 1 := Scalar.cmpi .slt v178 c0_i32_138
  let c0_i32_139 : BitVec 32 := 0#32
  let v181 : BitVec 1 := Scalar.cmpi .slt v177 c0_i32_139
  let v182 : BitVec 1 := Scalar.xori v180 v181
  let c0_i32_137 : BitVec 32 := 0#32
  let v179 : BitVec 1 := Scalar.cmpi .ne v178 c0_i32_137
  let v183 : BitVec 1 := Scalar.andi v182 v179
  let v184 : BitVec 32 := Scalar.addi v178 v177
  let v185 : BitVec 32 := Scalar.select v183 v184 v178
  let c1_i32_146 : BitVec 32 := 1#32
  let v188 : BitVec 32 := Scalar.muli v185 c1_i32_146
  let v189 : BitVec 32 := Scalar.addi c0_i32_147 v188
  v189.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_165 : BitVec 32 := 768#32
  let c0_i32_166 : BitVec 32 := 0#32
  ![v2.toNat, 768, 0]
def k0_dev11 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_151 : BitVec 32 := 2#32
  let v197 : BitVec 32 := Scalar.addi v2 c2_i32_151
  let c4_i32_152 : BitVec 32 := 4#32
  let c0_i32_153 : BitVec 32 := 0#32
  let v198 : BitVec 1 := Scalar.cmpi .eq c4_i32_152 c0_i32_153
  let c1_i32_154 : BitVec 32 := 1#32
  let v199 : BitVec 32 := Scalar.select v198 c1_i32_154 c4_i32_152
  let v200 : BitVec 32 := Scalar.remsi v197 v199
  let c0_i32_156 : BitVec 32 := 0#32
  let v202 : BitVec 1 := Scalar.cmpi .slt v200 c0_i32_156
  let c0_i32_157 : BitVec 32 := 0#32
  let v203 : BitVec 1 := Scalar.cmpi .slt v199 c0_i32_157
  let v204 : BitVec 1 := Scalar.xori v202 v203
  let c0_i32_155 : BitVec 32 := 0#32
  let v201 : BitVec 1 := Scalar.cmpi .ne v200 c0_i32_155
  let v205 : BitVec 1 := Scalar.andi v204 v201
  let v206 : BitVec 32 := Scalar.addi v200 v199
  let v207 : BitVec 32 := Scalar.select v205 v206 v200
  let c1_i32_163 : BitVec 32 := 1#32
  let v210 : BitVec 32 := Scalar.muli v207 c1_i32_163
  let v211 : BitVec 32 := Scalar.addi c0_i32_164 v210
  v211.toNat
def k0_off9 (d0 : Dev nD) (c0_i32_170 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_169 : BitVec 32 := 1024#32
  let v222 : BitVec 32 := Scalar.muli v2 c1024_i32_169
  let v223 : BitVec 32 := Scalar.addi v222 c0_i32_170
  let v224 : Index := Scalar.indexCast v223
  let c0_171 : Index := 0#32
  ![v224.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_172 : BitVec 32 := 1024#32
  let v227 : BitVec 32 := Scalar.muli v2 c1024_i32_172
  let v228 : Index := Scalar.indexCast v227
  let c0_173 : Index := 0#32
  ![v228.toNat, 0]
def k0_off11 (d0 : Dev nD) (c1_i32_187 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v257 : BitVec 32 := Scalar.subi v2 c1_i32_187
  let c4_i32_188 : BitVec 32 := 4#32
  let c0_i32_189 : BitVec 32 := 0#32
  let v258 : BitVec 1 := Scalar.cmpi .eq c4_i32_188 c0_i32_189
  let c1_i32_190 : BitVec 32 := 1#32
  let v259 : BitVec 32 := Scalar.select v258 c1_i32_190 c4_i32_188
  let v260 : BitVec 32 := Scalar.remsi v257 v259
  let c0_i32_192 : BitVec 32 := 0#32
  let v262 : BitVec 1 := Scalar.cmpi .slt v260 c0_i32_192
  let c0_i32_193 : BitVec 32 := 0#32
  let v263 : BitVec 1 := Scalar.cmpi .slt v259 c0_i32_193
  let v264 : BitVec 1 := Scalar.xori v262 v263
  let c0_i32_191 : BitVec 32 := 0#32
  let v261 : BitVec 1 := Scalar.cmpi .ne v260 c0_i32_191
  let v265 : BitVec 1 := Scalar.andi v264 v261
  let v266 : BitVec 32 := Scalar.addi v260 v259
  let v267 : BitVec 32 := Scalar.select v265 v266 v260
  let c0_i32_202 : BitVec 32 := 0#32
  let c0_i32_203 : BitVec 32 := 0#32
  ![v267.toNat, 0, 0]
def k0_off12 (d0 : Dev nD) (c1_i32_205 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v277 : BitVec 32 := Scalar.subi v2 c1_i32_205
  let c4_i32_206 : BitVec 32 := 4#32
  let c0_i32_207 : BitVec 32 := 0#32
  let v278 : BitVec 1 := Scalar.cmpi .eq c4_i32_206 c0_i32_207
  let c1_i32_208 : BitVec 32 := 1#32
  let v279 : BitVec 32 := Scalar.select v278 c1_i32_208 c4_i32_206
  let v280 : BitVec 32 := Scalar.remsi v277 v279
  let c0_i32_210 : BitVec 32 := 0#32
  let v282 : BitVec 1 := Scalar.cmpi .slt v280 c0_i32_210
  let c0_i32_211 : BitVec 32 := 0#32
  let v283 : BitVec 1 := Scalar.cmpi .slt v279 c0_i32_211
  let v284 : BitVec 1 := Scalar.xori v282 v283
  let c0_i32_209 : BitVec 32 := 0#32
  let v281 : BitVec 1 := Scalar.cmpi .ne v280 c0_i32_209
  let v285 : BitVec 1 := Scalar.andi v284 v281
  let v286 : BitVec 32 := Scalar.addi v280 v279
  let v287 : BitVec 32 := Scalar.select v285 v286 v280
  let v288 : Index := Scalar.indexCast v287
  let c0_212 : Index := 0#32
  let c0_213 : Index := 0#32
  ![v288.toNat, 0, 0]
def k0_off13 (d0 : Dev nD) (c1_i32_205 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v277 : BitVec 32 := Scalar.subi v2 c1_i32_205
  let c4_i32_206 : BitVec 32 := 4#32
  let c0_i32_207 : BitVec 32 := 0#32
  let v278 : BitVec 1 := Scalar.cmpi .eq c4_i32_206 c0_i32_207
  let c1_i32_208 : BitVec 32 := 1#32
  let v279 : BitVec 32 := Scalar.select v278 c1_i32_208 c4_i32_206
  let v280 : BitVec 32 := Scalar.remsi v277 v279
  let c0_i32_210 : BitVec 32 := 0#32
  let v282 : BitVec 1 := Scalar.cmpi .slt v280 c0_i32_210
  let c0_i32_211 : BitVec 32 := 0#32
  let v283 : BitVec 1 := Scalar.cmpi .slt v279 c0_i32_211
  let v284 : BitVec 1 := Scalar.xori v282 v283
  let c0_i32_209 : BitVec 32 := 0#32
  let v281 : BitVec 1 := Scalar.cmpi .ne v280 c0_i32_209
  let v285 : BitVec 1 := Scalar.andi v284 v281
  let v286 : BitVec 32 := Scalar.addi v280 v279
  let v287 : BitVec 32 := Scalar.select v285 v286 v280
  let c1024_i32_214 : BitVec 32 := 1024#32
  let v291 : BitVec 32 := Scalar.muli v287 c1024_i32_214
  let v292 : Index := Scalar.indexCast v291
  let c0_215 : Index := 0#32
  ![v292.toNat, 0]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_261 : BitVec 32 := 2#32
  let v365 : BitVec 32 := Scalar.subi v2 c2_i32_261
  let c4_i32_262 : BitVec 32 := 4#32
  let c0_i32_263 : BitVec 32 := 0#32
  let v366 : BitVec 1 := Scalar.cmpi .eq c4_i32_262 c0_i32_263
  let c1_i32_264 : BitVec 32 := 1#32
  let v367 : BitVec 32 := Scalar.select v366 c1_i32_264 c4_i32_262
  let v368 : BitVec 32 := Scalar.remsi v365 v367
  let c0_i32_266 : BitVec 32 := 0#32
  let v370 : BitVec 1 := Scalar.cmpi .slt v368 c0_i32_266
  let c0_i32_267 : BitVec 32 := 0#32
  let v371 : BitVec 1 := Scalar.cmpi .slt v367 c0_i32_267
  let v372 : BitVec 1 := Scalar.xori v370 v371
  let c0_i32_265 : BitVec 32 := 0#32
  let v369 : BitVec 1 := Scalar.cmpi .ne v368 c0_i32_265
  let v373 : BitVec 1 := Scalar.andi v372 v369
  let v374 : BitVec 32 := Scalar.addi v368 v367
  let v375 : BitVec 32 := Scalar.select v373 v374 v368
  let c0_i32_276 : BitVec 32 := 0#32
  let c0_i32_277 : BitVec 32 := 0#32
  ![v375.toNat, 0, 0]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_279 : BitVec 32 := 2#32
  let v385 : BitVec 32 := Scalar.subi v2 c2_i32_279
  let c4_i32_280 : BitVec 32 := 4#32
  let c0_i32_281 : BitVec 32 := 0#32
  let v386 : BitVec 1 := Scalar.cmpi .eq c4_i32_280 c0_i32_281
  let c1_i32_282 : BitVec 32 := 1#32
  let v387 : BitVec 32 := Scalar.select v386 c1_i32_282 c4_i32_280
  let v388 : BitVec 32 := Scalar.remsi v385 v387
  let c0_i32_284 : BitVec 32 := 0#32
  let v390 : BitVec 1 := Scalar.cmpi .slt v388 c0_i32_284
  let c0_i32_285 : BitVec 32 := 0#32
  let v391 : BitVec 1 := Scalar.cmpi .slt v387 c0_i32_285
  let v392 : BitVec 1 := Scalar.xori v390 v391
  let c0_i32_283 : BitVec 32 := 0#32
  let v389 : BitVec 1 := Scalar.cmpi .ne v388 c0_i32_283
  let v393 : BitVec 1 := Scalar.andi v392 v389
  let v394 : BitVec 32 := Scalar.addi v388 v387
  let v395 : BitVec 32 := Scalar.select v393 v394 v388
  let v396 : Index := Scalar.indexCast v395
  let c0_286 : Index := 0#32
  let c0_287 : Index := 0#32
  ![v396.toNat, 0, 0]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_305 : BitVec 32 := 2#32
  let v426 : BitVec 32 := Scalar.subi v2 c2_i32_305
  let c4_i32_306 : BitVec 32 := 4#32
  let c0_i32_307 : BitVec 32 := 0#32
  let v427 : BitVec 1 := Scalar.cmpi .eq c4_i32_306 c0_i32_307
  let c1_i32_308 : BitVec 32 := 1#32
  let v428 : BitVec 32 := Scalar.select v427 c1_i32_308 c4_i32_306
  let v429 : BitVec 32 := Scalar.remsi v426 v428
  let c0_i32_310 : BitVec 32 := 0#32
  let v431 : BitVec 1 := Scalar.cmpi .slt v429 c0_i32_310
  let c0_i32_311 : BitVec 32 := 0#32
  let v432 : BitVec 1 := Scalar.cmpi .slt v428 c0_i32_311
  let v433 : BitVec 1 := Scalar.xori v431 v432
  let c0_i32_309 : BitVec 32 := 0#32
  let v430 : BitVec 1 := Scalar.cmpi .ne v429 c0_i32_309
  let v434 : BitVec 1 := Scalar.andi v433 v430
  let v435 : BitVec 32 := Scalar.addi v429 v428
  let v436 : BitVec 32 := Scalar.select v434 v435 v429
  let c256_i32_320 : BitVec 32 := 256#32
  let c0_i32_321 : BitVec 32 := 0#32
  ![v436.toNat, 256, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_323 : BitVec 32 := 2#32
  let v446 : BitVec 32 := Scalar.subi v2 c2_i32_323
  let c4_i32_324 : BitVec 32 := 4#32
  let c0_i32_325 : BitVec 32 := 0#32
  let v447 : BitVec 1 := Scalar.cmpi .eq c4_i32_324 c0_i32_325
  let c1_i32_326 : BitVec 32 := 1#32
  let v448 : BitVec 32 := Scalar.select v447 c1_i32_326 c4_i32_324
  let v449 : BitVec 32 := Scalar.remsi v446 v448
  let c0_i32_328 : BitVec 32 := 0#32
  let v451 : BitVec 1 := Scalar.cmpi .slt v449 c0_i32_328
  let c0_i32_329 : BitVec 32 := 0#32
  let v452 : BitVec 1 := Scalar.cmpi .slt v448 c0_i32_329
  let v453 : BitVec 1 := Scalar.xori v451 v452
  let c0_i32_327 : BitVec 32 := 0#32
  let v450 : BitVec 1 := Scalar.cmpi .ne v449 c0_i32_327
  let v454 : BitVec 1 := Scalar.andi v453 v450
  let v455 : BitVec 32 := Scalar.addi v449 v448
  let v456 : BitVec 32 := Scalar.select v454 v455 v449
  let v457 : Index := Scalar.indexCast v456
  let c256 : Index := 256#32
  let c0_330 : Index := 0#32
  ![v457.toNat, 256, 0]
def k0_off18 (d0 : Dev nD) (c1_i32_348 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v487 : BitVec 32 := Scalar.subi v2 c1_i32_348
  let c4_i32_349 : BitVec 32 := 4#32
  let c0_i32_350 : BitVec 32 := 0#32
  let v488 : BitVec 1 := Scalar.cmpi .eq c4_i32_349 c0_i32_350
  let c1_i32_351 : BitVec 32 := 1#32
  let v489 : BitVec 32 := Scalar.select v488 c1_i32_351 c4_i32_349
  let v490 : BitVec 32 := Scalar.remsi v487 v489
  let c0_i32_353 : BitVec 32 := 0#32
  let v492 : BitVec 1 := Scalar.cmpi .slt v490 c0_i32_353
  let c0_i32_354 : BitVec 32 := 0#32
  let v493 : BitVec 1 := Scalar.cmpi .slt v489 c0_i32_354
  let v494 : BitVec 1 := Scalar.xori v492 v493
  let c0_i32_352 : BitVec 32 := 0#32
  let v491 : BitVec 1 := Scalar.cmpi .ne v490 c0_i32_352
  let v495 : BitVec 1 := Scalar.andi v494 v491
  let v496 : BitVec 32 := Scalar.addi v490 v489
  let v497 : BitVec 32 := Scalar.select v495 v496 v490
  let c512_i32_363 : BitVec 32 := 512#32
  let c0_i32_364 : BitVec 32 := 0#32
  ![v497.toNat, 512, 0]
def k0_off19 (d0 : Dev nD) (c1_i32_366 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v507 : BitVec 32 := Scalar.subi v2 c1_i32_366
  let c4_i32_367 : BitVec 32 := 4#32
  let c0_i32_368 : BitVec 32 := 0#32
  let v508 : BitVec 1 := Scalar.cmpi .eq c4_i32_367 c0_i32_368
  let c1_i32_369 : BitVec 32 := 1#32
  let v509 : BitVec 32 := Scalar.select v508 c1_i32_369 c4_i32_367
  let v510 : BitVec 32 := Scalar.remsi v507 v509
  let c0_i32_371 : BitVec 32 := 0#32
  let v512 : BitVec 1 := Scalar.cmpi .slt v510 c0_i32_371
  let c0_i32_372 : BitVec 32 := 0#32
  let v513 : BitVec 1 := Scalar.cmpi .slt v509 c0_i32_372
  let v514 : BitVec 1 := Scalar.xori v512 v513
  let c0_i32_370 : BitVec 32 := 0#32
  let v511 : BitVec 1 := Scalar.cmpi .ne v510 c0_i32_370
  let v515 : BitVec 1 := Scalar.andi v514 v511
  let v516 : BitVec 32 := Scalar.addi v510 v509
  let v517 : BitVec 32 := Scalar.select v515 v516 v510
  let v518 : Index := Scalar.indexCast v517
  let c512 : Index := 512#32
  let c0_373 : Index := 0#32
  ![v518.toNat, 512, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_421 : BitVec 32 := 2#32
  let v595 : BitVec 32 := Scalar.subi v2 c2_i32_421
  let c4_i32_422 : BitVec 32 := 4#32
  let c0_i32_423 : BitVec 32 := 0#32
  let v596 : BitVec 1 := Scalar.cmpi .eq c4_i32_422 c0_i32_423
  let c1_i32_424 : BitVec 32 := 1#32
  let v597 : BitVec 32 := Scalar.select v596 c1_i32_424 c4_i32_422
  let v598 : BitVec 32 := Scalar.remsi v595 v597
  let c0_i32_426 : BitVec 32 := 0#32
  let v600 : BitVec 1 := Scalar.cmpi .slt v598 c0_i32_426
  let c0_i32_427 : BitVec 32 := 0#32
  let v601 : BitVec 1 := Scalar.cmpi .slt v597 c0_i32_427
  let v602 : BitVec 1 := Scalar.xori v600 v601
  let c0_i32_425 : BitVec 32 := 0#32
  let v599 : BitVec 1 := Scalar.cmpi .ne v598 c0_i32_425
  let v603 : BitVec 1 := Scalar.andi v602 v599
  let v604 : BitVec 32 := Scalar.addi v598 v597
  let v605 : BitVec 32 := Scalar.select v603 v604 v598
  let c512_i32_436 : BitVec 32 := 512#32
  let c0_i32_437 : BitVec 32 := 0#32
  ![v605.toNat, 512, 0]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_439 : BitVec 32 := 2#32
  let v615 : BitVec 32 := Scalar.subi v2 c2_i32_439
  let c4_i32_440 : BitVec 32 := 4#32
  let c0_i32_441 : BitVec 32 := 0#32
  let v616 : BitVec 1 := Scalar.cmpi .eq c4_i32_440 c0_i32_441
  let c1_i32_442 : BitVec 32 := 1#32
  let v617 : BitVec 32 := Scalar.select v616 c1_i32_442 c4_i32_440
  let v618 : BitVec 32 := Scalar.remsi v615 v617
  let c0_i32_444 : BitVec 32 := 0#32
  let v620 : BitVec 1 := Scalar.cmpi .slt v618 c0_i32_444
  let c0_i32_445 : BitVec 32 := 0#32
  let v621 : BitVec 1 := Scalar.cmpi .slt v617 c0_i32_445
  let v622 : BitVec 1 := Scalar.xori v620 v621
  let c0_i32_443 : BitVec 32 := 0#32
  let v619 : BitVec 1 := Scalar.cmpi .ne v618 c0_i32_443
  let v623 : BitVec 1 := Scalar.andi v622 v619
  let v624 : BitVec 32 := Scalar.addi v618 v617
  let v625 : BitVec 32 := Scalar.select v623 v624 v618
  let v626 : Index := Scalar.indexCast v625
  let c512_446 : Index := 512#32
  let c0_447 : Index := 0#32
  ![v626.toNat, 512, 0]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_465 : BitVec 32 := 2#32
  let v656 : BitVec 32 := Scalar.subi v2 c2_i32_465
  let c4_i32_466 : BitVec 32 := 4#32
  let c0_i32_467 : BitVec 32 := 0#32
  let v657 : BitVec 1 := Scalar.cmpi .eq c4_i32_466 c0_i32_467
  let c1_i32_468 : BitVec 32 := 1#32
  let v658 : BitVec 32 := Scalar.select v657 c1_i32_468 c4_i32_466
  let v659 : BitVec 32 := Scalar.remsi v656 v658
  let c0_i32_470 : BitVec 32 := 0#32
  let v661 : BitVec 1 := Scalar.cmpi .slt v659 c0_i32_470
  let c0_i32_471 : BitVec 32 := 0#32
  let v662 : BitVec 1 := Scalar.cmpi .slt v658 c0_i32_471
  let v663 : BitVec 1 := Scalar.xori v661 v662
  let c0_i32_469 : BitVec 32 := 0#32
  let v660 : BitVec 1 := Scalar.cmpi .ne v659 c0_i32_469
  let v664 : BitVec 1 := Scalar.andi v663 v660
  let v665 : BitVec 32 := Scalar.addi v659 v658
  let v666 : BitVec 32 := Scalar.select v664 v665 v659
  let c768_i32_480 : BitVec 32 := 768#32
  let c0_i32_481 : BitVec 32 := 0#32
  ![v666.toNat, 768, 0]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_483 : BitVec 32 := 2#32
  let v676 : BitVec 32 := Scalar.subi v2 c2_i32_483
  let c4_i32_484 : BitVec 32 := 4#32
  let c0_i32_485 : BitVec 32 := 0#32
  let v677 : BitVec 1 := Scalar.cmpi .eq c4_i32_484 c0_i32_485
  let c1_i32_486 : BitVec 32 := 1#32
  let v678 : BitVec 32 := Scalar.select v677 c1_i32_486 c4_i32_484
  let v679 : BitVec 32 := Scalar.remsi v676 v678
  let c0_i32_488 : BitVec 32 := 0#32
  let v681 : BitVec 1 := Scalar.cmpi .slt v679 c0_i32_488
  let c0_i32_489 : BitVec 32 := 0#32
  let v682 : BitVec 1 := Scalar.cmpi .slt v678 c0_i32_489
  let v683 : BitVec 1 := Scalar.xori v681 v682
  let c0_i32_487 : BitVec 32 := 0#32
  let v680 : BitVec 1 := Scalar.cmpi .ne v679 c0_i32_487
  let v684 : BitVec 1 := Scalar.andi v683 v680
  let v685 : BitVec 32 := Scalar.addi v679 v678
  let v686 : BitVec 32 := Scalar.select v684 v685 v679
  let v687 : Index := Scalar.indexCast v686
  let c768 : Index := 768#32
  let c0_490 : Index := 0#32
  ![v687.toNat, 768, 0]
abbrev stage0_0 : Fin 1 → Memref sig .tc .vmem S4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Geometry.lean ====
/-
# Where the kernel's pieces lie

Every buffer the kernel cuts up is cut along one axis only, its rows: the staged shard of `x` and the two result
buffers along axis 0, the landing buffer along its first two axes read as one (slot `s`, row `r` is row `1024 * s + r`).
A piece is therefore an interval of row numbers, `rng φ lo hi`. Here: splitting and joining such pieces, the eight
chunks a device sends, the device each goes to, and each printed address in closed form as an interval of rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Intervals of rows -/

section Rows

variable {X : Type} [Fintype X] (φ : X → ℕ)

/-- The elements whose row number lies in `[lo, hi)`. -/
def rng (lo hi : ℕ) : Finset X := Finset.univ.filter fun i => lo ≤ φ i ∧ φ i < hi

theorem mem_rng {lo hi : ℕ} {i : X} : i ∈ rng φ lo hi ↔ lo ≤ φ i ∧ φ i < hi := by
  unfold rng; rw [Finset.mem_filter]; exact ⟨fun h => h.2, fun h => ⟨Finset.mem_univ _, h⟩⟩

theorem rng_union [DecidableEq X] {lo mid hi : ℕ} (h₁ : lo ≤ mid) (h₂ : mid ≤ hi) : rng φ lo mid ∪ rng φ mid hi = rng φ lo hi := by
  ext i; rw [Finset.mem_union, mem_rng, mem_rng, mem_rng]; omega

theorem rng_disjoint (lo mid hi : ℕ) : Disjoint (rng φ lo mid) (rng φ mid hi) := by
  rw [Finset.disjoint_left]; intro i h h'; rw [mem_rng] at h h'; omega

theorem rng_univ {hi : ℕ} (h : ∀ i, φ i < hi) : rng φ 0 hi = Finset.univ := by
  ext i; rw [mem_rng]; exact ⟨fun _ => Finset.mem_univ _, fun _ => ⟨Nat.zero_le _, h i⟩⟩

end Rows

section Pieces

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} (φ : Idx ℓ → ℕ)

/-- An interval of rows held at one contents is its two parts. -/
theorem rows_split {lo mid hi : ℕ} (h₁ : lo ≤ mid) (h₂ : mid ≤ hi) (f : Buf Val ℓ) :
    (ℓ ↦[rng φ lo hi]{fullShare} f : sProp 𝕄) = iprop((ℓ ↦[rng φ lo mid]{fullShare} f) ∗ (ℓ ↦[rng φ mid hi]{fullShare} f)) := by
  rw [← rng_union φ h₁ h₂]
  exact Entails.antisymm (pointsTo_union (rng_disjoint φ lo mid hi)).1 (pointsTo_union (rng_disjoint φ lo mid hi)).2

/-- Two neighbouring intervals, each at some contents, are one at some contents. -/
theorem rows_join {lo mid hi : ℕ} (h₁ : lo ≤ mid) (h₂ : mid ≤ hi) :
    iprop((∃ f : Buf Val ℓ, ℓ ↦[rng φ lo mid]{fullShare} f) ∗ (∃ f : Buf Val ℓ, ℓ ↦[rng φ mid hi]{fullShare} f))
      ⊢ (iprop(∃ f : Buf Val ℓ, ℓ ↦[rng φ lo hi]{fullShare} f) : sProp 𝕄) := by
  iintro ⟨⟨%f, Hf⟩, ⟨%g, Hg⟩⟩
  rw [← rng_union φ h₁ h₂]
  iexists ((rng φ mid hi).piecewise g f)
  iapply (pointsTo_join (rng_disjoint φ lo mid hi))
  isplitl [Hf] <;> iassumption

/-- Four blocks of `n` rows. -/
theorem rows_four (n : ℕ) (hφ : ∀ i, φ i < 4 * n) (f : Buf Val ℓ) :
    (ℓ ↦{fullShare} f : sProp 𝕄) = bigSep Finset.univ fun b : Fin 4 => ℓ ↦[rng φ (n * b.val) (n * b.val + n)]{fullShare} f := by
  refine Ring.pointsTo_blocks (fun b : Fin 4 => rng φ (n * b.val) (n * b.val + n)) (fun b b' hb => ?_) ?_ f
  · rw [Finset.disjoint_left]; intro i h h'; rw [mem_rng] at h h'
    rcases Nat.lt_or_gt_of_ne (fun e => hb (Fin.ext e)) with hlt | hlt
    · have := Nat.mul_le_mul_left n (Nat.succ_le_of_lt hlt); rw [Nat.mul_succ] at this; omega
    · have := Nat.mul_le_mul_left n (Nat.succ_le_of_lt hlt); rw [Nat.mul_succ] at this; omega
  · ext i; rw [Finset.mem_biUnion]
    refine ⟨fun _ => Finset.mem_univ _, fun _ => ?_⟩
    have hi := hφ i
    have hn : 0 < n := by omega
    refine ⟨⟨φ i / n, (Nat.div_lt_iff_lt_mul hn).mpr hi⟩, Finset.mem_univ _, ?_⟩
    rw [mem_rng]
    have h1 := Nat.div_add_mod (φ i) n
    have h2 := Nat.mod_lt (φ i) hn
    show n * (φ i / n) ≤ φ i ∧ φ i < n * (φ i / n) + n
    omega

end Pieces

/-! ## The row numbers of the four buffers -/

/-- Row of the staged shard of `x`. -/
abbrev φx (i : S4096x1024.Idx) : ℕ := (i 0).val
/-- Row of the landing buffer, slot and row of the slot read as one. -/
abbrev φt (i : S4x1024x1024.Idx) : ℕ := 1024 * (i 0).val + (i 1).val
/-- Row of the result, in the result array and in its buffer on the core. -/
abbrev φo (i : S1024x2048.Idx) : ℕ := (i 0).val

theorem φx_lt (i : S4096x1024.Idx) : φx i < 4 * 1024 := (i 0).isLt
theorem φt_lt (i : S4x1024x1024.Idx) : φt i < 4 * 1024 := by
  have h0 : (i 0).val < 4 := (i 0).isLt
  have h1 : (i 1).val < 1024 := (i 1).isLt
  show 1024 * (i 0).val + (i 1).val < 4 * 1024; omega
theorem φo_lt (i : S1024x2048.Idx) : φo i < 4 * 256 := (i 0).isLt

/-! ## The eight chunks -/

/-- How many devices on chunk `i` goes. -/
abbrev dist (i : Fin 8) : ℕ := (![1, 1, 3, 3, 2, 2, 2, 2] : Fin 8 → ℕ) i
/-- Its first row within the block of 1024 rows it is a part of. -/
abbrev part (i : Fin 8) : ℕ := (![0, 512, 0, 512, 0, 256, 512, 768] : Fin 8 → ℕ) i
/-- How many rows it has. -/
abbrev rows (i : Fin 8) : ℕ := (![512, 512, 512, 512, 256, 256, 256, 256] : Fin 8 → ℕ) i

set_option backward.proofsInPublic true in
/-- The device `d` places on, around the mesh of four. -/
def ahead (d : ℕ) (c : Dev nD) : Dev nD := ⟨(c.val + d) % 4, Nat.mod_lt _ (by decide)⟩

/-- Where device `c`'s chunk `i` goes, and whose chunk `i` comes to device `c`. -/
abbrev tgt (c : Dev nD) (i : Fin 8) : Dev nD := ahead (dist i) c
abbrev src (c : Dev nD) (i : Fin 8) : Dev nD := ahead (4 - dist i) c

theorem src_tgt (c : Dev nD) (i : Fin 8) : src (tgt c i) i = c := by revert c i; decide
theorem tgt_src (c : Dev nD) (i : Fin 8) : tgt (src c i) i = c := by revert c i; decide

/-- `tgt · i` as a rearrangement of the devices. -/
def aroundE (i : Fin 8) : Dev nD ≃ Dev nD := ⟨fun c => tgt c i, fun c => src c i, fun c => src_tgt c i, fun c => tgt_src c i⟩

theorem ahead_ahead (c : Dev nD) (d : Fin 4) : ahead (4 - d.val) (ahead d.val c) = c := by revert c d; decide
theorem ahead_ahead' (c : Dev nD) (d : Fin 4) : ahead d.val (ahead (4 - d.val) c) = c := by revert c d; decide
/-- `ahead d` as a rearrangement of the devices. -/
def aheadE (d : Fin 4) : Dev nD ≃ Dev nD := ⟨ahead d.val, ahead (4 - d.val), fun c => ahead_ahead c d, fun c => ahead_ahead' c d⟩

/-- The mesh seen from device `c`: distance to device. -/
theorem ahead_inj (c : Dev nD) : Function.Bijective (fun d : Fin 4 => ahead d.val c) := by revert c; decide
def meshE (c : Dev nD) : Fin 4 ≃ Dev nD := Equiv.ofBijective _ (ahead_inj c)

/-! ## The printed device numbers -/

theorem dev1_eq (c : Dev nD) : (⟨k0_dev1 c, k0_dev1_lt c⟩ : Dev nD) = ahead 1 c := by revert c; decide
theorem dev2_eq (c : Dev nD) : (⟨k0_dev2 c, k0_dev2_lt c⟩ : Dev nD) = ahead 2 c := by revert c; decide
theorem dev3_eq (c : Dev nD) : (⟨k0_dev3 c, k0_dev3_lt c⟩ : Dev nD) = ahead 3 c := by revert c; decide
theorem dev4_eq (c : Dev nD) : (⟨k0_dev4 c, k0_dev4_lt c⟩ : Dev nD) = tgt c 0 := by revert c; decide
theorem dev5_eq (c : Dev nD) : (⟨k0_dev5 c, k0_dev5_lt c⟩ : Dev nD) = tgt c 1 := by revert c; decide
theorem dev6_eq (c : Dev nD) : (⟨k0_dev6 c, k0_dev6_lt c⟩ : Dev nD) = tgt c 2 := by revert c; decide
theorem dev7_eq (c : Dev nD) : (⟨k0_dev7 c, k0_dev7_lt c⟩ : Dev nD) = tgt c 3 := by revert c; decide
theorem dev8_eq (c : Dev nD) : (⟨k0_dev8 c, k0_dev8_lt c⟩ : Dev nD) = tgt c 4 := by revert c; decide
theorem dev9_eq (c : Dev nD) : (⟨k0_dev9 c, k0_dev9_lt c⟩ : Dev nD) = tgt c 5 := by revert c; decide
theorem dev10_eq (c : Dev nD) : (⟨k0_dev10 c, k0_dev10_lt c⟩ : Dev nD) = tgt c 6 := by revert c; decide
theorem dev11_eq (c : Dev nD) : (⟨k0_dev11 c, k0_dev11_lt c⟩ : Dev nD) = tgt c 7 := by revert c; decide

/-! ## The printed offsets -/

theorem off2_10 (c : Dev nD) : k0_off2 c 1#32 0#32 = ![1024 * (tgt c 0).val + part 0, 0] := by revert c; decide
theorem off2_11 (c : Dev nD) : k0_off2 c 1#32 512#32 = ![1024 * (tgt c 1).val + part 1, 0] := by revert c; decide
theorem off2_30 (c : Dev nD) : k0_off2 c 3#32 0#32 = ![1024 * (tgt c 2).val + part 2, 0] := by revert c; decide
theorem off2_31 (c : Dev nD) : k0_off2 c 3#32 512#32 = ![1024 * (tgt c 3).val + part 3, 0] := by revert c; decide
theorem off5_0 (c : Dev nD) : k0_off5 c 0#32 = ![1024 * (tgt c 4).val + part 4, 0] := by revert c; decide
theorem off5_1 (c : Dev nD) : k0_off5 c 256#32 = ![1024 * (tgt c 5).val + part 5, 0] := by revert c; decide
theorem off5_2 (c : Dev nD) : k0_off5 c 512#32 = ![1024 * (tgt c 6).val + part 6, 0] := by revert c; decide
theorem off5_3 (c : Dev nD) : k0_off5 c 768#32 = ![1024 * (tgt c 7).val + part 7, 0] := by revert c; decide

theorem off9_0 (c : Dev nD) : k0_off9 c 0#32 = ![1024 * c.val, 0] := by revert c; decide
theorem off9_1 (c : Dev nD) : k0_off9 c 512#32 = ![1024 * c.val + 512, 0] := by revert c; decide
theorem off10_at (c : Dev nD) : k0_off10 c = ![1024 * c.val, 0] := by revert c; decide
theorem off13_1 (c : Dev nD) : k0_off13 c 1#32 = ![1024 * (ahead 3 c).val, 0] := by revert c; decide
theorem off13_2 (c : Dev nD) : k0_off13 c 2#32 = ![1024 * (ahead 2 c).val, 0] := by revert c; decide
theorem off13_3 (c : Dev nD) : k0_off13 c 3#32 = ![1024 * (ahead 1 c).val, 0] := by revert c; decide

theorem off12_1 (c : Dev nD) : k0_off12 c 1#32 = ![(src c 0).val, part 0, 0] := by revert c; decide
theorem off12_3 (c : Dev nD) : k0_off12 c 3#32 = ![(src c 2).val, part 2, 0] := by revert c; decide
theorem off19_1 (c : Dev nD) : k0_off19 c 1#32 = ![(src c 1).val, part 1, 0] := by revert c; decide
theorem off19_3 (c : Dev nD) : k0_off19 c 3#32 = ![(src c 3).val, part 3, 0] := by revert c; decide
theorem off15_at (c : Dev nD) : k0_off15 c = ![(src c 4).val, part 4, 0] := by revert c; decide
theorem off17_at (c : Dev nD) : k0_off17 c = ![(src c 5).val, part 5, 0] := by revert c; decide
theorem off21_at (c : Dev nD) : k0_off21 c = ![(src c 6).val, part 6, 0] := by revert c; decide
theorem off23_at (c : Dev nD) : k0_off23 c = ![(src c 7).val, part 7, 0] := by revert c; decide

theorem off1_at (c : Dev nD) : k0_off1 c = ![c.val, 0, 0] := by revert c; decide
theorem off3_at (c : Dev nD) : k0_off3 c = ![c.val, 512, 0] := by revert c; decide
theorem off4_at (c : Dev nD) : k0_off4 c = ![c.val, 0, 0] := by revert c; decide
theorem off6_at (c : Dev nD) : k0_off6 c = ![c.val, 256, 0] := by revert c; decide
theorem off7_at (c : Dev nD) : k0_off7 c = ![c.val, 512, 0] := by revert c; decide
theorem off8_at (c : Dev nD) : k0_off8 c = ![c.val, 768, 0] := by revert c; decide

/-! ## The memrefs, and the rows under their slices -/

abbrev xM : Memref sig .tc .vmem S4096x1024 .i8 := Memref.whole cc0_stg0_0
abbrev wM : Memref sig .tc .vmem S4096x2048 .i8 := Memref.whole cc0_stg1_0
abbrev aM : Memref sig .tc .smem S1 .f32 := Memref.whole cc0_stg2_0
abbrev bM : Memref sig .tc .smem S1 .f32 := Memref.whole cc0_stg3_0
abbrev yM : Memref sig .tc .hbm S1024x2048 .f32 := Memref.whole main_v1
abbrev tM : Memref sig .tc .vmem S4x1024x1024 .i8 := Memref.whole cc0_scratch0
abbrev oM : Memref sig .tc .vmem S1024x2048 .f32 := Memref.whole cc0_scratch1

/-- `n` whole rows of `x` from row `off 0`. -/
theorem rect_x {n lo : ℕ} {off : Fin 2 → ℕ} (hoff : off = ![lo, 0]) (inb) :
    (Rect.unit (s := S4096x1024) off (⟨2, ![n, 1024]⟩ : Shape).size inb).set = rng φx lo (lo + n) := by
  subst hoff; ext i; rw [Rect.mem_set_unit, mem_rng, Fin.forall_fin_two]
  have h1 : (i 1).val < 1024 := (i 1).isLt
  show (lo ≤ (i 0).val ∧ (i 0).val < lo + n) ∧ (0 ≤ (i 1).val ∧ (i 1).val < 0 + 1024) ↔ lo ≤ (i 0).val ∧ (i 0).val < lo + n
  omega

/-- `n` whole rows of slot `s` of the landing buffer from row `p`. -/
theorem rect_t {n s p : ℕ} (hn : p + n ≤ 1024) {off : Fin 3 → ℕ} (hoff : off = ![s, p, 0]) (inb) :
    (Rect.unit (s := S4x1024x1024) off (⟨3, ![1, n, 1024]⟩ : Shape).size inb).set = rng φt (1024 * s + p) (1024 * s + p + n) := by
  subst hoff; ext i; rw [Rect.mem_set_unit, mem_rng, Fin.forall_fin_succ, Fin.forall_fin_two]
  have h1 : (i 1).val < 1024 := (i 1).isLt
  have h2 : (i 2).val < 1024 := (i 2).isLt
  show (s ≤ (i 0).val ∧ (i 0).val < s + 1) ∧ (p ≤ (i 1).val ∧ (i 1).val < p + n) ∧ (0 ≤ (i 2).val ∧ (i 2).val < 0 + 1024)
    ↔ 1024 * s + p ≤ 1024 * (i 0).val + (i 1).val ∧ 1024 * (i 0).val + (i 1).val < 1024 * s + p + n
  omega

/-- 256 whole rows of the result from row `lo`. -/
theorem rect_o {lo : ℕ} {off : Fin 2 → ℕ} (hoff : off = ![lo, 0]) (inb) :
    (Rect.unit (s := S1024x2048) off S256x2048.size inb).set = rng φo lo (lo + 256) := by
  subst hoff; ext i; rw [Rect.mem_set_unit, mem_rng, Fin.forall_fin_two]
  have h1 : (i 1).val < 2048 := (i 1).isLt
  show (lo ≤ (i 0).val ∧ (i 0).val < lo + 256) ∧ (0 ≤ (i 1).val ∧ (i 1).val < 0 + 2048) ↔ lo ≤ (i 0).val ∧ (i 0).val < lo + 256
  omega

end Cert.ScatterProof

end
-- ==== Proof.Values.lean ====
/-
# What the kernel leaves in the result, as the kernel's own expressions

Device `c` multiplies four blocks of 1024 columns: its own rows of its own shard of `x`, then the rows landed from the
device before it, from the one after it, and from the one opposite. The result is built in four quarters of 256 rows,
each from the printed payloads at what is loaded. Nothing is computed here: the expressions are only named, in terms of
the four argument blocks staged on each device, for any float values.
-/
module

public import proofs.«01_k».proof.Proof.Geometry

@[expose] public section

noncomputable section

namespace Cert.ScatterProof

open Cert.KernelIdeal Cert.KernelIdeal.Gen

open Idealize.ShloMosaic
open Idealize.ShloMosaic.TcCoe
open Idealize.ShloMosaic.ValueIdx
open Idealize.SL Idealize.SL.Sem

variable {F : FTy → Type} [FloatOps F]

variable (m : (ℓ : Loc nD τ sig) → Buf (Elt F) ℓ)

/-! ## What is staged and what lands -/

/-- The four staged argument blocks of device `c`. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def astg (c : Dev nD) : (cc0_stg2_0 : Ref sig .tc).ty.Contents (Elt F) :=
  (win0_2.blk (0 : Fin 1)).view.read (Elt F) (m ((c : Thread nD τ).loc main_arg2))
def bstg (c : Dev nD) : (cc0_stg3_0 : Ref sig .tc).ty.Contents (Elt F) :=
  (win0_3.blk (0 : Fin 1)).view.read (Elt F) (m ((c : Thread nD τ).loc main_arg3))

/-- The landing buffer of device `c` once every chunk is in: slot `s` holds the rows `1024 c …` of device `s`'s shard. -/
def landed (c : Dev nD) : (cc0_scratch0 : Ref sig .tc).ty.Contents (Elt F) :=
  fun (i : S4x1024x1024.Idx) => xstg m (⟨(i 0).val, (i 0).isLt⟩ : Dev nD)
    (ix2 (⟨1024 * c.val + (i 1).val, by
      have h0 : c.val < 4 := c.isLt
      have h1 : (i 1).val < 1024 := (i 1).isLt
      omega⟩ : Fin 4096) (⟨(i 2).val, (i 2).isLt⟩ : Fin 1024) : S4096x1024.Idx)

/-! ## The loads -/

/-- Rows loaded from the staged shard, from the landing buffer, from the staged weights; a staged scale. -/
abbrev ldX (off : Fin 2 → ℕ) (inb : ∀ a, off a + S512x1024.size a ≤ S4096x1024.size a) (f : (cc0_stg0_0 : Ref sig .tc).ty.Contents (Elt F)) : Vec F S512x1024 .i8 :=
  xM.view.readAt (Elt F) (Rect.unit (s := S4096x1024) off S512x1024.size inb).toLoadRect f
abbrev ldT (off : Fin 3 → ℕ) (inb : ∀ a, off a + S1x512x1024.size a ≤ S4x1024x1024.size a) (f : (cc0_scratch0 : Ref sig .tc).ty.Contents (Elt F)) : Vec F S1x512x1024 .i8 :=
  tM.view.readAt (Elt F) (Rect.unit (s := S4x1024x1024) off S1x512x1024.size inb).toLoadRect f
abbrev ldQ (off : Fin 3 → ℕ) (inb : ∀ a, off a + S1x256x1024.size a ≤ S4x1024x1024.size a) (f : (cc0_scratch0 : Ref sig .tc).ty.Contents (Elt F)) : Vec F S1x256x1024 .i8 :=
  tM.view.readAt (Elt F) (Rect.unit (s := S4x1024x1024) off S1x256x1024.size inb).toLoadRect f
abbrev ldW (off : Fin 2 → ℕ) (inb : ∀ a, off a + S1024x2048.size a ≤ S4096x2048.size a) (f : (cc0_stg1_0 : Ref sig .tc).ty.Contents (Elt F)) : Vec F S1024x2048 .i8 :=
  wM.view.readAt (Elt F) (Rect.unit (s := S4096x2048) off S1024x2048.size inb).toLoadRect f

variable (c : Dev nD)

/-- The one element of a staged scale, and the product of the two scales. -/
abbrev r1 : Rect S1 := Rect.unit (s := S1) ![0] S1.size inb_S1_S1_0
def aVal : Elt F .f32 := (aM.access r1).read (Elt F) (astg m c) (Shape.Idx.first (numel1_S1.symm ▸ Nat.one_pos))
def bVal : Elt F .f32 := (bM.access r1).read (Elt F) (bstg m c) (Shape.Idx.first (numel1_S1.symm ▸ Nat.one_pos))
def scl : F .f32 := k0_pay1 (aVal m c) (bVal m c)

/-- The upper and lower half of the device's own rows of its own shard. -/
def xTop : Vec F S512x1024 .i8 := ldX (k0_off9 c 0#32) (k0_off9_inb c 0) (xstg m c)
def xBot : Vec F S512x1024 .i8 := ldX (k0_off9 c 512#32) (k0_off9_inb c 1) (xstg m c)
/-- The weights' block for its own columns, and for the columns of the devices one, two and three places back. -/
def w0 : Vec F S1024x2048 .i8 := ldW (k0_off10 c) (k0_off10_inb c) (wstg m c)
def w1 : Vec F S1024x2048 .i8 := ldW (k0_off13 c 1#32) (k0_off13_inb c 0) (wstg m c)
def w2 : Vec F S1024x2048 .i8 := ldW (k0_off13 c 2#32) (k0_off13_inb c 1) (wstg m c)
def w3 : Vec F S1024x2048 .i8 := ldW (k0_off13 c 3#32) (k0_off13_inb c 2) (wstg m c)
/-- The landed chunks: halves from one place back and from three, quarters from two. -/
def t1Top : Vec F S1x512x1024 .i8 := ldT (k0_off12 c 1#32) (k0_off12_inb c 0) (landed m c)
def t3Top : Vec F S1x512x1024 .i8 := ldT (k0_off12 c 3#32) (k0_off12_inb c 1) (landed m c)
def t1Bot : Vec F S1x512x1024 .i8 := ldT (k0_off19 c 1#32) (k0_off19_inb c 0) (landed m c)
def t3Bot : Vec F S1x512x1024 .i8 := ldT (k0_off19 c 3#32) (k0_off19_inb c 1) (landed m c)
def t2q0 : Vec F S1x256x1024 .i8 := ldQ (k0_off15 c) (k0_off15_inb c) (landed m c)
def t2q1 : Vec F S1x256x1024 .i8 := ldQ (k0_off17 c) (k0_off17_inb c) (landed m c)
def t2q2 : Vec F S1x256x1024 .i8 := ldQ (k0_off21 c) (k0_off21_inb c) (landed m c)
def t2q3 : Vec F S1x256x1024 .i8 := ldQ (k0_off23 c) (k0_off23_inb c) (landed m c)

/-! ## The four quarters -/

/-- The integer accumulators after three of the four blocks, a quarter each. -/
def acc0 : IVec S256x2048 32 := k0_pay13 (k0_pay10 (k0_pay3 (xTop m c) (w0 m c)) (k0_pay9 (t1Top m c) (w1 m c))) (t3Top m c) (w3 m c)
def acc1 : IVec S256x2048 32 := k0_pay14 (k0_pay11 (k0_pay4 (xTop m c) (w0 m c)) (k0_pay8 (t1Top m c) (w1 m c))) (t3Top m c) (w3 m c)
def acc2 : IVec S256x2048 32 := k0_pay22 (k0_pay19 (k0_pay6 (xBot m c) (w0 m c)) (t1Bot m c) (w1 m c)) (t3Bot m c) (w3 m c)
def acc3 : IVec S256x2048 32 := k0_pay23 (k0_pay20 (k0_pay7 (xBot m c) (w0 m c)) (t1Bot m c) (w1 m c)) (t3Bot m c) (w3 m c)

/-- The quarters of the result: the last block added, the sum scaled. -/
def out0 : FVec F S256x2048 .f32 := k0_pay16 (scl m c) (acc0 m c) (k0_pay15 (t2q0 m c)) (w2 m c)
def out1 : FVec F S256x2048 .f32 := k0_pay17 (scl m c) (acc1 m c) (t2q1 m c) (w2 m c)
def out2 : FVec F S256x2048 .f32 := k0_pay24 (scl m c) (acc2 m c) (t2q2 m c) (w2 m c)
def out3 : FVec F S256x2048 .f32 := k0_pay25 (scl m c) (acc3 m c) (t2q3 m c) (w2 m c)

/-- Quarter `q`. -/
def outQ (q : Fin 4) : FVec F S256x2048 .f32 := match q with
  | 0 => out0 m c
  | 1 => out1 m c
  | 2 => out2 m c
  | 3 => out3 m c

/-- The result of device `c`: row `256 q + r` is row `r` of quarter `q`. -/
def outAt : FVec F S1024x2048 .f32 := fun i =>
  outQ m c (⟨(i 0).val / 256, by have h : (i 0).val < 1024 := (i 0).isLt; omega⟩ : Fin 4)
    (ix2 (⟨(i 0).val % 256, Nat.mod_lt _ (by decide)⟩ : Fin 256) (⟨(i 1).val, (i 1).isLt⟩ : Fin 2048) : S256x2048.Idx)

end Cert.ScatterProof

end
-- ==== Proof.Protocol.lean ====
/-
# The protocol between the devices

A barrier, then eight chunks each way. Device `c` tells each of the other three that its landing buffer is ready, and
with the word lends the slot that the other will write: the slot named after the writer. Having heard from all three it
holds the slot `c` of every other device, and sends its eight chunks into them. Each chunk has two cells: on the sender's
side one that gives the sent rows back, on the receiver's side one that gives the landed rows. The four quarters of the
result go out by local copies, each on a cell of its own. Every cell has one round.

A device that waits at its barrier owes chunks only, and one that waits for a chunk owes nothing: the levels are
barrier 1, chunks received 2, all else 0.
-/
module

public import proofs.«01_k».proof.Proof.Values

@[expose] public section

noncomputable section

namespace Cert.ScatterProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: one copy of the rounds for the staging, one for this protocol (duties named by `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The barrier semaphore, the send and receive semaphore of chunk `i`, the semaphore of quarter `q`'s copy; and the
    sixteen semaphores of the two arrays that no chunk uses. -/
abbrev barS : Sem sig := (SemArray.scalar (sig.barrier 0 rfl) : Sems sig S_).sem
def sSem (i : Fin 8) : DmaSem sig := (![8, 9, 16, 17, 12, 13, 14, 15] : Fin 8 → Fin 40) i
def rSem (i : Fin 8) : DmaSem sig := (![24, 25, 32, 33, 28, 29, 30, 31] : Fin 8 → Fin 40) i
def oSem (q : Fin 4) : DmaSem sig := (![36, 37, 38, 39] : Fin 4 → Fin 40) q
def iSem (j : Fin 16) : DmaSem sig := (![4, 5, 6, 7, 10, 11, 18, 19, 20, 21, 22, 23, 26, 27, 34, 35] : Fin 16 → Fin 40) j

/-- What a DMA semaphore is for. -/
inductive Role | send (i : Fin 8) | recv (i : Fin 8) | out (q : Fin 4) | idle
deriving DecidableEq

def role (q : DmaSem sig) : Role := (![.idle, .idle, .idle, .idle,
  .idle, .idle, .idle, .idle, .send 0, .send 1, .idle, .idle, .send 4, .send 5, .send 6, .send 7, .send 2, .send 3, .idle, .idle,
  .idle, .idle, .idle, .idle, .recv 0, .recv 1, .idle, .idle, .recv 4, .recv 5, .recv 6, .recv 7, .recv 2, .recv 3, .idle, .idle,
  .out 0, .out 1, .out 2, .out 3] : Fin 40 → Role) q

theorem role_send (i : Fin 8) : role (sSem i) = .send i := by revert i; decide
theorem role_recv (i : Fin 8) : role (rSem i) = .recv i := by revert i; decide
theorem role_out (q : Fin 4) : role (oSem q) = .out q := by revert q; decide
theorem role_stage (q : DmaSem sig) (h : q.val < 4) : role q = .idle := by revert q; decide

abbrev barCell (c : Dev nD) : GSem nD τ sig := ((c : Thread nD τ), .reg barS)
abbrev sendCell (c : Dev nD) (i : Fin 8) : GSem nD τ sig := ((c : Thread nD τ), .dma (sSem i))
abbrev recvCell (c : Dev nD) (i : Fin 8) : GSem nD τ sig := ((c : Thread nD τ), .dma (rSem i))
abbrev outCell (c : Dev nD) (q : Fin 4) : GSem nD τ sig := ((c : Thread nD τ), .dma (oSem q))

/-- The semaphores the protocol uses on a device, by name: the barrier; chunks sent; chunks received; quarters. -/
abbrev Used : Type := Fin 8 ⊕ (Fin 8 ⊕ Fin 4)
abbrev Ci : Type := Unit ⊕ Used
def usem : Used → DmaSem sig
  | .inl i => sSem i
  | .inr (.inl i) => rSem i
  | .inr (.inr q) => oSem q
def csem : Ci → SemLoc sig
  | .inl _ => .reg barS
  | .inr u => .dma (usem u)
abbrev kcell (ck : Dev nD × Ci) : GSem nD τ sig := ((ck.1 : Thread nD τ), csem ck.2)

/-- What the transfer of `n` rows of bytes credits, and of a quarter of the result. -/
def rowCredit (n : ℕ) : ℕ := sig.dmaCredit .tc (Kind.tc.table .vmem) cc0_scratch0.idx (⟨2, ![n, 1024]⟩ : Shape) .i8
def outCredit : ℕ := sig.dmaCredit .tc (Kind.tc.table .hbm) main_v1.idx S256x2048 .f32
def amt (i : Fin 8) : ℕ := rowCredit (rows i)

theorem amt_pos (i : Fin 8) : 0 < amt i := sig.dmaCredit_pos _ _ _ _ _ (by revert i; decide)
theorem outCredit_pos : 0 < outCredit := sig.dmaCredit_pos _ _ _ _ _ (by decide)

/-! ## Pieces of the buffers -/

abbrev xloc (c : Dev nD) : Loc nD τ sig := (c : Thread nD τ).loc cc0_stg0_0
abbrev tloc (c : Dev nD) : Loc nD τ sig := (c : Thread nD τ).loc cc0_scratch0
abbrev oloc (c : Dev nD) : Loc nD τ sig := (c : Thread nD τ).loc cc0_scratch1
abbrev yloc (c : Dev nD) : Loc nD τ sig := (c : Thread nD τ).loc main_v1

/-- Rows `[lo, hi)` of device `c`'s staged shard, of its landing buffer, of its result buffer, of its result array. -/
def xPts (c : Dev nD) (lo hi : ℕ) (f : Buf (Elt F) (xloc c)) : sProp 𝕄 := xloc c ↦[rng φx lo hi]{fullShare} f
def tPts (c : Dev nD) (lo hi : ℕ) (f : Buf (Elt F) (tloc c)) : sProp 𝕄 := tloc c ↦[rng φt lo hi]{fullShare} f
def oPts (c : Dev nD) (lo hi : ℕ) (f : Buf (Elt F) (oloc c)) : sProp 𝕄 := oloc c ↦[rng φo lo hi]{fullShare} f
def yPts (c : Dev nD) (lo hi : ℕ) (f : Buf (Elt F) (yloc c)) : sProp 𝕄 := yloc c ↦[rng φo lo hi]{fullShare} f

/-- The first row of chunk `i` in the sender's shard; where it lies in the landing buffer of the receiver it goes to; and
    where the chunk `i` that comes to `c` lies in `c`'s own. -/
abbrev xLo (c : Dev nD) (i : Fin 8) : ℕ := 1024 * (tgt c i).val + part i
abbrev tLo (c : Dev nD) (i : Fin 8) : ℕ := 1024 * c.val + part i

/-- Chunk `i` of device `c`, as it lies in the shard; as it lies landed on the receiver; the place for it there. -/
def sendPay (c : Dev nD) (i : Fin 8) : sProp 𝕄 := xPts c (xLo c i) (xLo c i + rows i) (xstg m c)
def recvPay (c : Dev nD) (i : Fin 8) : sProp 𝕄 := tPts c (tLo (src c i) i) (tLo (src c i) i + rows i) (landed m c)
/-- Quarter `q` of the result written, and of the buffer it was copied from. -/
def outPay (c : Dev nD) (q : Fin 4) : sProp 𝕄 :=
  iprop(yPts c (256 * q.val) (256 * q.val + 256) (outAt m c) ∗ oPts c (256 * q.val) (256 * q.val + 256) (outAt m c))
/-- What the word from the device `d` places back lends: its landing slot named after `c`. -/
def barPay (c : Dev nD) (d : Fin 4) : sProp 𝕄 :=
  iprop(∃ f, tPts (ahead (4 - d.val) c) (1024 * c.val) (1024 * c.val + 1024) f)

omit [FloatOps F] in
instance xPts_storable (c : Dev nD) (lo hi : ℕ) (f) : BI.Storable (upEmb : UEmb _ 𝕄) (xPts (F := F) c lo hi f) := by unfold xPts; infer_instance
omit [FloatOps F] in
instance tPts_storable (c : Dev nD) (lo hi : ℕ) (f) : BI.Storable (upEmb : UEmb _ 𝕄) (tPts (F := F) c lo hi f) := by unfold tPts; infer_instance
omit [FloatOps F] in
instance oPts_storable (c : Dev nD) (lo hi : ℕ) (f) : BI.Storable (upEmb : UEmb _ 𝕄) (oPts (F := F) c lo hi f) := by unfold oPts; infer_instance
omit [FloatOps F] in
instance yPts_storable (c : Dev nD) (lo hi : ℕ) (f) : BI.Storable (upEmb : UEmb _ 𝕄) (yPts (F := F) c lo hi f) := by unfold yPts; infer_instance

/-! ## The schedule -/

/-- One round. A barrier cell: duties 1, 2, 3, one unit each, duty `d` paid from `d` places back. A chunk's cells and a
    quarter's: one duty, the credit of the transfer. -/
def sched : Rounds.Schedule (GSem nD τ sig) (Fin 4) 𝕄 where
  duties g r := if r = 0 ∧ g.1.2 = .tc then (match g.2 with
    | .reg _ => {1, 2, 3}
    | .dma q => if role q = .idle then ∅ else {0}) else ∅
  unitless _ := False
  amount g _ _ := match g.2 with
    | .reg _ => 1
    | .dma q => match role q with
      | .send i => amt i
      | .recv i => amt i
      | .out _ => outCredit
      | .idle => 1
  payload g _ d := match g.2 with
    | .reg _ => barPay g.1.1 d
    | .dma q => match role q with
      | .send i => sendPay m g.1.1 i
      | .recv i => recvPay m g.1.1 i
      | .out q => outPay m g.1.1 q
      | .idle => iprop(emp)
  amount_pos g _ _ _ := by
    split
    · exact Nat.one_pos
    · split
      · exact amt_pos _
      · exact amt_pos _
      · exact outCredit_pos
      · exact Nat.one_pos

instance sched_payload_storable (g : GSem nD τ sig) (r : ℕ) (d : Fin 4) :
    BI.Storable (upEmb : UEmb _ 𝕄) ((sched (F := F) m).payload g r d) := by
  show BI.Storable upEmb (match g.2 with
    | .reg _ => barPay g.1.1 d
    | .dma q => match role q with
      | .send i => sendPay m g.1.1 i
      | .recv i => recvPay m g.1.1 i
      | .out q => outPay m g.1.1 q
      | .idle => iprop(emp))
  unfold barPay sendPay recvPay outPay
  (repeat' split) <;> infer_instance

section Sched
variable (c : Dev nD)

theorem duties_bar : (sched (F := F) m).duties (barCell c) 0 = {1, 2, 3} := by
  dsimp only [sched]; rw [if_pos ⟨rfl, rfl⟩]
theorem duties_dma {q : DmaSem sig} (h : role q ≠ .idle) : (sched (F := F) m).duties ((c : Thread nD τ), .dma q) 0 = {0} := by
  dsimp only [sched]; rw [if_pos ⟨rfl, rfl⟩, if_neg h]
theorem duties_send (i : Fin 8) : (sched (F := F) m).duties (sendCell c i) 0 = {0} := duties_dma m c (by rw [role_send]; exact fun h => by cases h)
theorem duties_recv (i : Fin 8) : (sched (F := F) m).duties (recvCell c i) 0 = {0} := duties_dma m c (by rw [role_recv]; exact fun h => by cases h)
theorem duties_out (q : Fin 4) : (sched (F := F) m).duties (outCell c q) 0 = {0} := duties_dma m c (by rw [role_out]; exact fun h => by cases h)
theorem duties_later (g : GSem nD τ sig) : ∀ r, 1 ≤ r → (sched (F := F) m).duties g r = ∅ :=
  fun r hr => by dsimp only [sched]; rw [if_neg fun h => by omega]

theorem amount_bar (d : Fin 4) : (sched (F := F) m).amount (barCell c) 0 d = 1 := rfl
theorem amount_send (i : Fin 8) (d : Fin 4) : (sched (F := F) m).amount (sendCell c i) 0 d = amt i := by
  dsimp only [sched]; rw [role_send]
theorem amount_recv (i : Fin 8) (d : Fin 4) : (sched (F := F) m).amount (recvCell c i) 0 d = amt i := by
  dsimp only [sched]; rw [role_recv]
theorem amount_out (q : Fin 4) (d : Fin 4) : (sched (F := F) m).amount (outCell c q) 0 d = outCredit := by
  dsimp only [sched]; rw [role_out]

theorem payload_bar (d : Fin 4) : (sched (F := F) m).payload (barCell c) 0 d = barPay c d := rfl
theorem payload_send (i : Fin 8) (d : Fin 4) : (sched (F := F) m).payload (sendCell c i) 0 d = sendPay m c i := by
  dsimp only [sched]; rw [role_send]
theorem payload_recv (i : Fin 8) (d : Fin 4) : (sched (F := F) m).payload (recvCell c i) 0 d = recvPay m c i := by
  dsimp only [sched]; rw [role_recv]
theorem payload_out (q : Fin 4) (d : Fin 4) : (sched (F := F) m).payload (outCell c q) 0 d = outPay m c q := by
  dsimp only [sched]; rw [role_out]

theorem expect_bar : (sched (F := F) m).expect (barCell c) 0 = 3 := by
  unfold Schedule.expect Schedule.amountOf
  rw [duties_bar, Finset.sum_congr rfl fun d _ => amount_bar m c d, Finset.sum_const]; rfl
theorem expect_send (i : Fin 8) : (sched (F := F) m).expect (sendCell c i) 0 = amt i := by
  unfold Schedule.expect Schedule.amountOf; rw [duties_send, Finset.sum_singleton, amount_send]
theorem expect_recv (i : Fin 8) : (sched (F := F) m).expect (recvCell c i) 0 = amt i := by
  unfold Schedule.expect Schedule.amountOf; rw [duties_recv, Finset.sum_singleton, amount_recv]
theorem expect_out (q : Fin 4) : (sched (F := F) m).expect (outCell c q) 0 = outCredit := by
  unfold Schedule.expect Schedule.amountOf; rw [duties_out, Finset.sum_singleton, amount_out]

/-- What a wait for the whole round hands over. -/
theorem rest_bar : bigSep ((sched (F := F) m).duties (barCell c) 0 \ ∅) (fun d => (sched (F := F) m).payload (barCell c) 0 d)
    = iprop(barPay c 1 ∗ barPay c 2 ∗ barPay c 3) := by
  rw [Finset.sdiff_empty, duties_bar, bigSep_eq_bigSepL_of_eq [1, 2, 3] (by decide) (by decide)]; rfl
theorem rest_send (i : Fin 8) : bigSep ((sched (F := F) m).duties (sendCell c i) 0 \ ∅) (fun d => (sched (F := F) m).payload (sendCell c i) 0 d) = sendPay m c i := by
  rw [Finset.sdiff_empty, duties_send, bigSep_singleton, payload_send]
theorem rest_recv (i : Fin 8) : bigSep ((sched (F := F) m).duties (recvCell c i) 0 \ ∅) (fun d => (sched (F := F) m).payload (recvCell c i) 0 d) = recvPay m c i := by
  rw [Finset.sdiff_empty, duties_recv, bigSep_singleton, payload_recv]
theorem rest_out (q : Fin 4) : bigSep ((sched (F := F) m).duties (outCell c q) 0 \ ∅) (fun d => (sched (F := F) m).payload (outCell c q) 0 d) = outPay m c q := by
  rw [Finset.sdiff_empty, duties_out, bigSep_singleton, payload_out]

end Sched

/-! ## What a device owes, and the levels -/

/-- Chunk `i` owed to the receiver; the chunks still owed when `n` are left, the first of them last; at launch the three
    words before them. -/
def owedChunk (c : Dev nD) (i : Fin 8) : CellTallies nD τ sig Unit := tallyAt (recvCell (tgt c i) i) () (amt i)
def owedChunks (c : Dev nD) : ℕ → CellTallies nD τ sig Unit
  | 0 => 0
  | n + 1 => owedChunks c n + owedChunk c (⟨7 - n, by omega⟩ : Fin 8)
def owed3 (c : Dev nD) : CellTallies nD τ sig Unit := owedChunks c 8 + tallyAt (barCell (ahead 3 c)) () 1
def owed2 (c : Dev nD) : CellTallies nD τ sig Unit := owed3 c + tallyAt (barCell (ahead 2 c)) () 1
def owed0 (c : Dev nD) : CellTallies nD τ sig Unit := owed2 c + tallyAt (barCell (ahead 1 c)) () 1

def L (g : GSem nD τ sig) : Finset Unit := if g.1.2 = .tc then {()} else ∅
/-- Whether a semaphore receives a chunk. -/
def isRecv (q : DmaSem sig) : Bool := match role q with
  | .recv _ => true
  | _ => false
def lv (g : GSem nD τ sig) (_ : Unit) : ℕ := match g.2 with
  | .reg _ => 1
  | .dma q => if isRecv q then 2 else 0

theorem L_of_ne (g : GSem nD τ sig) (h : g.1.2 ≠ .tc) : L g = ∅ := if_neg h
theorem L_tc (c : Dev nD) (sm : SemLoc sig) : L ((c : Thread nD τ), sm) = {()} := if_pos rfl
theorem isRecv_recv (i : Fin 8) : isRecv (rSem i) = true := by unfold isRecv; rw [role_recv]

/-- Something owed in a sum whose last part is one tally is owed there or before. -/
theorem pos_add_tally {O : CellTallies nD τ sig Unit} {g g' : GSem nD τ sig} {k : ℕ} {u : Unit} (h : 0 < (O + tallyAt g' () k) g u) :
    g = g' ∨ 0 < O g u := by
  by_cases e : g = g'
  · exact Or.inl e
  · rw [Pi.add_apply, Finsupp.add_apply, tallyAt_ne_cell e, Finsupp.zero_apply, Nat.add_zero] at h; exact Or.inr h

theorem owedChunks_pos {c : Dev nD} (n : ℕ) {g : GSem nD τ sig} {u : Unit} (h : 0 < owedChunks c n g u) :
    ∃ i, g = recvCell (tgt c i) i := by
  induction n with
  | zero => exact absurd h (Nat.lt_irrefl 0)
  | succ n ih => exact (pos_add_tally h).elim (fun e => ⟨(⟨7 - n, by omega⟩ : Fin 8), e⟩) ih

theorem owed0_pos {c : Dev nD} {g : GSem nD τ sig} {u : Unit} (h : 0 < owed0 c g u) :
    (∃ i, g = recvCell (tgt c i) i) ∨ ∃ d, g = barCell (ahead d c) := by
  rcases pos_add_tally h with e | h
  · exact Or.inr ⟨1, e⟩
  rcases pos_add_tally h with e | h
  · exact Or.inr ⟨2, e⟩
  rcases pos_add_tally h with e | h
  · exact Or.inr ⟨3, e⟩
  exact Or.inl (owedChunks_pos 8 h)

omit [FloatOps F] in
/-- A staging semaphore may be waited for whatever is owed at launch. -/
theorem mayWait_stage (c : Dev nD) (q : DmaSem sig) (hq : isRecv q = false) (O : CellTallies nD τ sig Unit) (hO : O = owed0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed0_pos hg with ⟨i, rfl⟩ | ⟨d, rfl⟩ <;> exact Finset.mem_singleton_self _)
      (fun p hp => by rw [Finset.mem_singleton.mp hp]; dsimp only [lv]; rw [hq]; rfl)
      (fun g u hg => by
        rcases owed0_pos hg with ⟨i, rfl⟩ | ⟨d, rfl⟩
        · dsimp only [lv]; rw [isRecv_recv]; decide
        · dsimp only [lv]; decide)
  · rw [MayWait_zero]; iintro -; iempintro

omit [FloatOps F] in
/-- At its barrier a device owes chunks only, all above it. -/
theorem mayWait_bar (c : Dev nD) : (levAts L lv : sProp 𝕄) ⊢ MayWait (c : Thread nD τ) (.reg barS) () (owedChunks c 8) :=
  MayOwe.of_cut (L := L) (lev := lv) 1 (fun p hp => by rw [Finset.mem_singleton.mp hp, L_tc]; exact Finset.mem_singleton_self _)
    (fun g u hg => by obtain ⟨i, rfl⟩ := owedChunks_pos 8 hg; exact Finset.mem_singleton_self _)
    (fun p hp => by rw [Finset.mem_singleton.mp hp]; exact le_refl 1)
    (fun g u hg => by obtain ⟨i, rfl⟩ := owedChunks_pos 8 hg; dsimp only [lv]; rw [isRecv_recv]; decide)

/-! ## What a device starts from and ends with -/

/-- The records every device reads: all cells' invariants, under the names `K`, and that each has reached its round. -/
def records (K : Dev nD × Ci → ℕ) : sProp 𝕄 :=
  iprop((bigSep Finset.univ fun ck : Dev nD × Ci => cellInv ER (sched m) (K ck) (kcell ck))
    ∗ bigSep Finset.univ fun ck : Dev nD × Ci => reached ER (kcell ck) 0)

instance records_persistent (K : Dev nD × Ci → ℕ) : BI.Persistent (records m K) := by unfold records; infer_instance

theorem inv_at (K : Dev nD × Ci → ℕ) (ck : Dev nD × Ci) : records m K ⊢ cellInv ER (sched m) (K ck) (kcell ck) := by
  unfold records; exact Laws.sep_and.trans (and_elimL.trans (bigSep_elim (Finset.mem_univ ck)))
theorem reached_at (K : Dev nD × Ci → ℕ) (ck : Dev nD × Ci) : records m K ⊢ reached ER (kcell ck) 0 := by
  unfold records; exact Laws.sep_and.trans (and_elimR.trans (bigSep_elim (Finset.mem_univ ck)))

/-- Its positions, at the start of the one round of each of its cells. -/
def places (c : Dev nD) : sProp 𝕄 :=
  iprop(atPos ER (barCell c) 0 ∅ 0 ∗ (bigSep Finset.univ fun i : Fin 8 => atPos ER (sendCell c i) 0 ∅ 0)
    ∗ (bigSep Finset.univ fun i : Fin 8 => atPos ER (recvCell c i) 0 ∅ 0) ∗ bigSep Finset.univ fun q : Fin 4 => atPos ER (outCell c q) 0 ∅ 0)
/-- The duties it pays: a unit to each other device's barrier, each chunk on both sides, each quarter. -/
def payToks (c : Dev nD) : sProp 𝕄 :=
  iprop((dutyTok ER (barCell (ahead 1 c)) 0 1 ∗ dutyTok ER (barCell (ahead 2 c)) 0 2 ∗ dutyTok ER (barCell (ahead 3 c)) 0 3)
    ∗ (bigSep Finset.univ fun i : Fin 8 => dutyTok ER (sendCell c i) 0 0)
    ∗ (bigSep Finset.univ fun i : Fin 8 => dutyTok ER (recvCell (tgt c i) i) 0 0) ∗ bigSep Finset.univ fun q : Fin 4 => dutyTok ER (outCell c q) 0 0)
/-- The semaphores it leaves alone. -/
def idleSems (c : Dev nD) : sProp 𝕄 := bigSep Finset.univ fun j : Fin 16 => semVal ((c : Thread nD τ), .dma (iSem j)) 0

def ghost (K : Dev nD × Ci → ℕ) (c : Dev nD) : sProp 𝕄 := iprop(records m K ∗ places c ∗ payToks c ∗ idleSems c)

/-- The credit the launch gives it: three units at its barrier, each chunk to come. -/
def credits (c : Dev nD) : sProp 𝕄 :=
  iprop(cred (tallyAt (barCell c) () 3) ∗ bigSep Finset.univ fun i : Fin 8 => cred (tallyAt (recvCell c i) () (amt i)))

def start (c : Dev nD) : sProp 𝕄 :=
  iprop((∃ K, ghost m K c) ∗ credits c ∗ levAts L lv ∗ (yloc c ↦{fullShare} m (yloc c)))

/-- Before the body: that, and the two scratch buffers at any contents. -/
def Φ₀ (c : Dev nD) : sProp 𝕄 := iprop(start m c ∗ (∃ f, tloc c ↦{fullShare} f) ∗ ∃ f, oloc c ↦{fullShare} f)
/-- After it: the result written, every semaphore at zero, the scratch buffers at some contents. -/
def Φ₁ (c : Dev nD) : sProp 𝕄 :=
  iprop((yloc c ↦{fullShare} (outAt m c : Buf (Elt F) (yloc c)))
    ∗ (semVal (barCell c) 0 ∗ (bigSep Finset.univ fun i : Fin 8 => semVal (sendCell c i) 0)
      ∗ (bigSep Finset.univ fun i : Fin 8 => semVal (recvCell c i) 0) ∗ (bigSep Finset.univ fun q : Fin 4 => semVal (outCell c q) 0) ∗ idleSems c)
    ∗ (∃ f, tloc c ↦{fullShare} f) ∗ ∃ f, oloc c ↦{fullShare} f)

/-! ## The pipeline's proof data: one point, the staged blocks unchanged by it -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => astg m c
    | ⟨3, _⟩ => bstg m c
  Φ t := match t with
    | ⟨0, _⟩ => Φ₀ m c
    | ⟨_ + 1, _⟩ => Φ₁ m c
  q _ := fullShare
  owed t := match t with
    | ⟨0, _⟩ => owed0 c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.ScatterProof

end
-- ==== Proof.Steps.lean ====
/-
# One step of the body each

The rule for each kind of effect the body performs, at this protocol's cells and pieces: a chunk sent, a chunk waited for
on either side, a load from the shard or the landing buffer, a quarter stored, copied out and waited for.
-/
module

public import proofs.«01_k».proof.Proof.Protocol

@[expose] public section

noncomputable section

namespace Cert.ScatterProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The views a transfer goes through -/

abbrev Sn (n : ℕ) : Shape := ⟨2, ![n, 1024]⟩
abbrev S1n (n : ℕ) : Shape := ⟨3, ![1, n, 1024]⟩
/-- `n` rows of the shard; `n` rows of a landing slot, as an array of rank two; a quarter of the result buffer and array. -/
abbrev xV (n : ℕ) (off : Fin 2 → ℕ) (inb : ∀ a, off a + (Sn n).size a ≤ S4096x1024.size a) : Memref sig .tc .vmem (Sn n) .i8 :=
  xM.slice (Rect.unit (s := S4096x1024) off (Sn n).size inb) (fun _ => rfl)
abbrev tV (n : ℕ) (off : Fin 3 → ℕ) (inb : ∀ a, off a + (S1n n).size a ≤ S4x1024x1024.size a) (sq : (S1n n).Squeezes (Sn n)) : Memref sig .tc .vmem (Sn n) .i8 :=
  (tM.slice (Rect.unit (s := S4x1024x1024) off (S1n n).size inb) (fun _ => rfl)).squeeze (Sn n) sq
abbrev oR (off : Fin 2 → ℕ) (inb : ∀ a, off a + S256x2048.size a ≤ S1024x2048.size a) : Rect S1024x2048 :=
  Rect.unit (s := S1024x2048) off S256x2048.size inb
abbrev oV (off : Fin 2 → ℕ) (inb : ∀ a, off a + S256x2048.size a ≤ S1024x2048.size a) : Memref sig .tc .vmem S256x2048 .f32 :=
  oM.slice (oR off inb) (fun _ => rfl)
abbrev yV (off : Fin 2 → ℕ) (inb : ∀ a, off a + S256x2048.size a ≤ S1024x2048.size a) : Memref sig .tc .hbm S256x2048 .f32 :=
  yM.slice (oR off inb) (fun _ => rfl)

theorem xV_set {n lo : ℕ} {off : Fin 2 → ℕ} (h : off = ![lo, 0]) (inb) : (xV n off inb).view.set = rng φx lo (lo + n) := by
  exact (View.set_slice_whole cc0_stg0_0 _).trans (rect_x h inb)
theorem tV_set {n s p : ℕ} (hn : p + n ≤ 1024) {off : Fin 3 → ℕ} (h : off = ![s, p, 0]) (inb sq) :
    (tV n off inb sq).view.set = rng φt (1024 * s + p) (1024 * s + p + n) := by
  exact (View.set_reshape _ _).trans ((View.set_slice_whole cc0_scratch0 _).trans (rect_t hn h inb))
theorem oV_set {lo : ℕ} {off : Fin 2 → ℕ} (h : off = ![lo, 0]) (inb) : (oV off inb).view.set = rng φo lo (lo + 256) := by
  exact (View.set_slice_whole cc0_scratch1 _).trans (rect_o h inb)
theorem yV_set {lo : ℕ} {off : Fin 2 → ℕ} (h : off = ![lo, 0]) (inb) : (yV off inb).view.set = rng φo lo (lo + 256) := by
  exact (View.set_slice_whole main_v1 _).trans (rect_o h inb)

/-! ## What a transfer leaves -/

/-- The landing buffer at an index, by coordinates: slot `e` is device `e`'s shard from row `1024 d`. -/
theorem landed_at (d e : Dev nD) (j : S4x1024x1024.Idx) (i : S4096x1024.Idx) (h0 : (j 0).val = e.val)
    (h1 : (i 0).val = 1024 * d.val + (j 1).val) (h2 : (i 1).val = (j 2).val) : landed m d j = xstg m e i := by
  have he : (⟨(j 0).val, (j 0).isLt⟩ : Dev nD) = e := Fin.ext h0
  unfold landed
  rw [he]
  exact congrArg (xstg m e) (funext fun a => Fin.ext (by fin_cases a; exacts [h1.symm, h2.symm]))

/-- The result at an index, by coordinates. -/
theorem outAt_at (c : Dev nD) (q : Fin 4) (j : S1024x2048.Idx) (i : S256x2048.Idx) (h0 : (j 0).val = 256 * q.val + (i 0).val)
    (h1 : (j 1).val = (i 1).val) : outAt m c j = outQ m c q i := by
  have hi : (i 0).val < 256 := (i 0).isLt
  have hq : (⟨(j 0).val / 256, by have h : (j 0).val < 1024 := (j 0).isLt; omega⟩ : Fin 4) = q := Fin.ext (by show (j 0).val / 256 = q.val; omega)
  unfold outAt
  rw [hq]
  exact congrArg (outQ m c q) (funext fun a => Fin.ext (by
    fin_cases a
    · show (j 0).val % 256 = (i 0).val; omega
    · exact h1))

/-- A chunk written from the sender's shard is what the landing buffer is to hold there. -/
theorem landed_rows (c d : Dev nD) {n p : ℕ} {off : Fin 2 → ℕ} {offt : Fin 3 → ℕ}
    (h : off = ![1024 * d.val + p, 0]) (ht : offt = ![c.val, p, 0]) (inb inbt sq) (fd : (cc0_scratch0 : Ref sig .tc).ty.Contents (Elt F)) :
    ∀ j ∈ (tV n offt inbt sq).view.set,
      (tV n offt inbt sq).view.write (Elt F) fd ((xV n off inb).view.read (Elt F) (xstg m c)) Finset.univ j = landed m d j := by
  intro j hj
  obtain ⟨k, -, rfl⟩ := Finset.mem_map.mp hj
  rw [View.write_emb_of_mem _ _ (Finset.mem_univ k)]
  subst h ht
  obtain ⟨k0, k1, rfl⟩ : ∃ (k0 : Fin n) (k1 : Fin 1024), k = (ix2 k0 k1 : (Sn n).Idx) := ⟨k 0, k 1, funext fun a => by fin_cases a <;> rfl⟩
  have e : (tV n ![c.val, p, 0] inbt sq).view.emb (ix2 k0 k1 : (Sn n).Idx)
      = (Rect.unit (s := S4x1024x1024) ![c.val, p, 0] (S1n n).size inbt).emb (ix3 (⟨0, Nat.one_pos⟩ : Fin 1) k0 k1 : (S1n n).Idx) :=
    congrArg (Rect.unit (s := S4x1024x1024) ![c.val, p, 0] (S1n n).size inbt).emb (reshapeEquiv_ix2_1ab sq.numel_eq k0 k1)
  rw [e]
  refine (landed_at m d c _ ((Rect.unit (s := S4096x1024) ![1024 * d.val + p, 0] (Sn n).size inb).emb (ix2 k0 k1 : (Sn n).Idx)) ?_ ?_ ?_).symm
  · show c.val + 1 * 0 = c.val; omega
  · show 1024 * d.val + p + 1 * k0.val = 1024 * d.val + (p + 1 * k0.val); omega
  · rfl

/-- A quarter stored is the result there. -/
theorem stored_rows (c : Dev nD) (q : Fin 4) {off : Fin 2 → ℕ} (h : off = ![256 * q.val, 0]) (inb) (f : (cc0_scratch1 : Ref sig .tc).ty.Contents (Elt F))
    {w : FVec F S256x2048 .f32} (hw : w = outQ m c q) :
    ∀ j ∈ (oM.access (oR off inb)).setOn Finset.univ, (oM.access (oR off inb)).write (Elt F) f w Finset.univ j = outAt m c j := by
  intro j hj
  obtain ⟨k, -, rfl⟩ := Finset.mem_map.mp hj
  rw [View.write_emb_of_mem _ _ (Finset.mem_univ k)]
  subst h hw
  refine (outAt_at m c q _ k ?_ ?_).symm
  · show 256 * q.val + 1 * (k 0).val = 256 * q.val + (k 0).val; omega
  · show 0 + 1 * (k 1).val = (k 1).val; omega

/-- A quarter copied is the result there. -/
theorem copied_rows (c : Dev nD) {off : Fin 2 → ℕ} (inb) (f : (main_v1 : Ref sig .tc).ty.Contents (Elt F)) :
    ∀ j ∈ (yV off inb).view.set,
      (yV off inb).view.write (Elt F) f ((oV off inb).view.read (Elt F) (outAt m c)) Finset.univ j = outAt m c j := by
  intro j hj
  obtain ⟨k, -, rfl⟩ := Finset.mem_map.mp hj
  rw [View.write_emb_of_mem _ _ (Finset.mem_univ k)]
  rfl

/-! ## The rules -/

variable (K : Dev nD × Ci → ℕ)

/-- What a device needs to send chunk `i`: the rows, the place for them, and both duties. -/
def ready (c : Dev nD) (i : Fin 8) : sProp 𝕄 :=
  iprop(sendPay m c i ∗ (∃ f, tPts (tgt c i) (tLo c i) (tLo c i + rows i) f) ∗ dutyTok ER (sendCell c i) 0 0 ∗ dutyTok ER (recvCell (tgt c i) i) 0 0)

theorem part_rows (i : Fin 8) : part i + rows i ≤ 1024 := by revert i; decide

/-- Sending chunk `i`: its credit on the send cell comes back, the chunk is no longer owed. -/
theorem wp_send_chunk (c n' : Dev nD) (i : Fin 8) (hn' : n' = tgt c i) (n : ℕ) (hn : rows i = n) {off : Fin 2 → ℕ} {offt : Fin 3 → ℕ}
    (h : off = ![1024 * (tgt c i).val + part i, 0]) (ht : offt = ![c.val, part i, 0]) {inb inbt sq} (qs qr : DmaSem sig) (hs : qs = sSem i) (hr : qr = rSem i)
    {hsc : (tV n offt inbt sq : Memref sig (Dev.tc n' : Thread nD τ).2.kind .vmem (Sn n) .i8).view.ref.isScScratch = false}
    {hsrc : (xV n off inb).view.WordExact} {hdst : (tV n offt inbt sq).view.WordExact}
    {hsem : DmaTarget.Typed .vmem (.dma qr) (.remote (Dev.tc n' : Thread nD τ) (tV n offt inbt sq) (.dma qs) hsc)}
    {α : Type} {Q : α → sProp 𝕄} {k : PUnit → Prog (TpuEff nD τ sig (Elt F) Λ₀ .tc) α}
    {O₀ : CellTallies nD τ sig Unit} (O : CellTallies nD τ sig Unit) (hO : O₀ = O + owedChunk c i) {W : Waits sig Unit} :
    iprop(records m K ∗ ready m c i ∗ owes (c : Thread nD τ) O₀ W)
      ⊢ iprop(((cred (tallyAt (sendCell c i) () (amt i)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xV n off inb) (.remote (Dev.tc n' : Thread nD τ) (tV n offt inbt sq) (.dma qs) hsc) (.dma qr) hsrc hdst hsem) k) Q) := by
  subst hn' hs hr hn
  iintro ⟨#HR, Hrd, HO⟩ Hk
  unfold ready sendPay xPts tPts
  icases Hrd with ⟨Hx, ⟨%f, Ht⟩, Hts, Htr⟩
  rw [← xV_set (n := rows i) h inb, ← tV_set (part_rows i) ht inbt sq]
  iapply (Rounds.wp_send_pointsTo 𝒱₀ ER (sched m) (c : Thread nD τ) none (c' := (tgt c i : Thread nD τ)) (src := xV (rows i) off inb) (dst := tV (rows i) offt inbt sq)
      (κ₁ := K (c, .inr (.inl i))) (κ₂ := K (tgt c i, .inr (.inr (.inl i)))) (r₁ := 0) (r₂ := 0) (d₁ := 0) (d₂ := 0) (fd := f)
      (by rw [duties_send]; exact Finset.mem_singleton_self _) (by rw [duties_recv]; exact Finset.mem_singleton_self _)
      () () (amt i) rfl (amount_send m c i 0) (amount_recv m (tgt c i) i 0) O hO (W := W)
      (by rw [payload_send]; unfold sendPay xPts; rw [xV_set (n := rows i) h inb])
      (by
        rw [payload_recv, pointsTo_congr (landed_rows m c (tgt c i) h ht inb inbt sq f), tV_set (part_rows i) ht inbt sq]
        unfold recvPay tPts; rw [src_tgt])) $$ [Hx Ht Hts Htr HO]
  · isplitr; · iapply (inv_at m K (c, .inr (.inl i))); iexact HR
    isplitr; · iapply (inv_at m K (tgt c i, .inr (.inr (.inl i)))); iexact HR
    isplitl [Hx]; · iexact Hx
    isplitl [Ht]; · iexact Ht
    isplitl [HO]; · iexact HO
    isplitl [Hts]; · iexact Hts
    isplitr; · iapply (reached_at m K (c, .inr (.inl i))); iexact HR
    isplitl [Htr]; · iexact Htr
    iapply (reached_at m K (tgt c i, .inr (.inr (.inl i)))); iexact HR
  iexact Hk

/-- A device owing nothing. -/
def free (c : Dev nD) : sProp 𝕄 := iprop(∃ W, owes (c : Thread nD τ) 0 W)

/-- A wait for the one duty of a cell, by a device owing nothing: the payload comes and the cell closes. -/
theorem wp_wait_cell (c : Dev nD) (u : Used) (q : DmaSem sig) (hq : q = usem u) (A : ℕ) {P : sProp 𝕄}
    (hA : (sched (F := F) m).expect (kcell (c, .inr u)) 0 = A)
    (hP : bigSep ((sched (F := F) m).duties (kcell (c, .inr u)) 0 \ ∅) (fun d => (sched (F := F) m).payload (kcell (c, .inr u)) 0 d) = P)
    {sp sp' : Space} {s : Shape} {e : EltTy} {srcv : Memref sig .tc sp s e} {dstv : Memref sig .tc sp' s e}
    (hN : dstv.view.dmaCredit = A) {h₁ h₂}
    {α : Type} {Q : α → sProp 𝕄} {k : PUnit → Prog (TpuEff nD τ sig (Elt F) Λ₀ .tc) α} :
    iprop(records m K ∗ cred (tallyAt (kcell (c, .inr u)) () A) ∗ atPos ER (kcell (c, .inr u)) 0 ∅ 0 ∗ free c)
      ⊢ iprop(((P ∗ semVal (kcell (c, .inr u)) 0 ∗ free c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcv dstv h₁ h₂) k) Q) := by
  subst hq hN hP
  iintro ⟨#HR, Hc, Ha, Hf⟩ Hk
  unfold free
  icases Hf with ⟨%W, HO⟩
  iapply (Rounds.wp_wait_rest_token 𝒱₀ ER (sched m) (c : Thread nD τ) none (κ := K (c, .inr u))
      (wpE_waitDma2_eq 𝒱₀ (c : Thread nD τ) none Set.univ) (Set.mem_univ _) () (O := 0) (W := W) (R := 0) (m := 0) (T := ∅)
      (by rw [Nat.zero_add]; exact hA.symm)) $$ [Hc Ha HO]
  · isplitr; · iapply (inv_at m K (c, .inr u)); iexact HR
    isplitl [Hc]; · iexact Hc
    isplitl [HO]; · iexact HO
    isplitr; · rw [MayWait_zero]; iempintro
    iexact Ha
  iintro ⟨HO, Ha, -, Hp⟩
  imod (Rounds.cell_close ER (sched m) (Set.mem_univ (K (c, .inr u))) (fun h => h) (R := 0 + 1) (duties_later m (kcell (c, .inr u)))) $$ [Ha] with Hz
  · isplitr; · iapply (inv_at m K (c, .inr u)); iexact HR
    iexact Ha
  iapply Hk
  isplitl [Hp]; · iexact Hp
  isplitl [Hz]; · iexact Hz
  iexists _; iexact HO

/-- Half a shard's rows loaded while the device holds rows around them. -/
theorem wp_load_x (c : Dev nD) {lo hi l : ℕ} (hl : lo ≤ l) (hh : l + 512 ≤ hi) {off : Fin 2 → ℕ} (h : off = ![l, 0]) {inb} {hx}
    {f : Buf (Elt F) (xloc c)} {α : Type} {Q : α → sProp 𝕄} {k : Vec F S512x1024 .i8 → Prog (TpuEff nD τ sig (Elt F) Λ₀ .tc) α} :
    (xPts c lo hi f : sProp 𝕄)
      ⊢ iprop((xPts c lo hi f -∗ wp frame (wpE (defs₀ (F := F)) 𝒱₀ (c : Thread nD τ) none) Set.univ (k (ldX off inb f)) Q)
          -∗ wp frame (wpE (defs₀ (F := F)) 𝒱₀ (c : Thread nD τ) none) Set.univ
              (.op (.load xM (Rect.unit (s := S4096x1024) off S512x1024.size inb).toLoadRect hx) k) Q) := by
  unfold xPts
  refine wp_load_rect 𝒱₀ (c : Thread nD τ) none Set.univ (m := xM) (r := Rect.unit (s := S4096x1024) off S512x1024.size inb) (k := k) (f := f) ?_
  refine ((View.set_slice_whole cc0_stg0_0 _).trans (rect_x (n := 512) h inb)).subset.trans fun j hj => ?_
  rw [mem_rng] at hj ⊢; omega

/-- A landed chunk loaded. -/
theorem wp_load_t (c : Dev nD) {n s p : ℕ} (hn : p + n ≤ 1024) {off : Fin 3 → ℕ} (h : off = ![s, p, 0]) {inb} {hx}
    {f : Buf (Elt F) (tloc c)} {α : Type} {Q : α → sProp 𝕄} {k : Vec F (S1n n) .i8 → Prog (TpuEff nD τ sig (Elt F) Λ₀ .tc) α} :
    (tPts c (1024 * s + p) (1024 * s + p + n) f : sProp 𝕄)
      ⊢ iprop((tPts c (1024 * s + p) (1024 * s + p + n) f -∗ wp frame (wpE (defs₀ (F := F)) 𝒱₀ (c : Thread nD τ) none) Set.univ
            (k (tM.view.readAt (Elt F) (Rect.unit (s := S4x1024x1024) off (S1n n).size inb).toLoadRect f)) Q)
          -∗ wp frame (wpE (defs₀ (F := F)) 𝒱₀ (c : Thread nD τ) none) Set.univ
              (.op (.load tM (Rect.unit (s := S4x1024x1024) off (S1n n).size inb).toLoadRect hx) k) Q) := by
  unfold tPts
  exact wp_load_rect 𝒱₀ (c : Thread nD τ) none Set.univ (m := tM) (r := Rect.unit (s := S4x1024x1024) off (S1n n).size inb) (k := k) (f := f)
    ((View.set_slice_whole cc0_scratch0 _).trans (rect_t hn h inb)).subset

/-- A quarter of the result buffer, before and after it is stored. -/
def blank (c : Dev nD) (q : Fin 4) : sProp 𝕄 := iprop(∃ f, oPts c (256 * q.val) (256 * q.val + 256) f)
def full (c : Dev nD) (q : Fin 4) : sProp 𝕄 := oPts c (256 * q.val) (256 * q.val + 256) (outAt m c)

/-- The idle load of a quarter before it is stored. -/
theorem wp_load_o (c : Dev nD) (q : Fin 4) {off : Fin 2 → ℕ} (h : off = ![256 * q.val, 0]) {inb} {hx}
    {α : Type} {Q : α → sProp 𝕄} {k : Vec F S256x2048 .f32 → Prog (TpuEff nD τ sig (Elt F) Λ₀ .tc) α} :
    (blank c q : sProp 𝕄)
      ⊢ iprop((∀ v, blank c q -∗ wp frame (wpE (defs₀ (F := F)) 𝒱₀ (c : Thread nD τ) none) Set.univ (k v) Q)
          -∗ wp frame (wpE (defs₀ (F := F)) 𝒱₀ (c : Thread nD τ) none) Set.univ (.op (.load oM (oR off inb).toLoadRect hx) k) Q) := by
  unfold blank oPts
  iintro ⟨%f, Ho⟩ Hk
  iapply (wp_load_rect 𝒱₀ (c : Thread nD τ) none Set.univ (m := oM) (r := oR off inb) (k := k) (f := f)
    ((View.set_slice_whole cc0_scratch1 _).trans (rect_o h inb)).subset) $$ Ho
  iintro Ho
  iapply Hk
  iexists f; iexact Ho

theorem oR_set {lo : ℕ} {off : Fin 2 → ℕ} (h : off = ![lo, 0]) (inb) : (oM.access (oR off inb)).setOn Finset.univ = rng φo lo (lo + 256) :=
  (View.set_slice_whole cc0_scratch1 _).trans (rect_o h inb)

/-- Quarter `q` stored. -/
theorem wp_store_o (c : Dev nD) (q : Fin 4) {off : Fin 2 → ℕ} (h : off = ![256 * q.val, 0]) {inb} {hx hm} {w : FVec F S256x2048 .f32} (hw : w = outQ m c q)
    {α : Type} {Q : α → sProp 𝕄} {k : PUnit → Prog (TpuEff nD τ sig (Elt F) Λ₀ .tc) α} :
    (blank c q : sProp 𝕄)
      ⊢ iprop((full m c q -∗ wp frame (wpE (defs₀ (F := F)) 𝒱₀ (c : Thread nD τ) none) Set.univ (k ⟨⟩) Q)
          -∗ wp frame (wpE (defs₀ (F := F)) 𝒱₀ (c : Thread nD τ) none) Set.univ (.op (.store oM (oR off inb) w Finset.univ hx hm) k) Q) := by
  unfold blank full oPts
  iintro ⟨%f, Ho⟩ Hk
  rw [← oR_set h inb]
  iapply (wp_store 𝒱₀ (c : Thread nD τ) none Set.univ (m := oM) (r := oR off inb) (w := w) (k := k) (f := f) (Mk := Finset.univ) subset_rfl) $$ Ho
  iintro Ho
  iapply Hk
  iapply (Entails.of_eq (pointsTo_congr (stored_rows m c q h inb f hw)))
  iexact Ho

/-- Quarter `q` sent off to the result array: its credit. -/
theorem wp_copy_o (c : Dev nD) (q : Fin 4) {off : Fin 2 → ℕ} (h : off = ![256 * q.val, 0]) {inb} (qo : DmaSem sig) (hq : qo = oSem q) {hsrc hdst}
    {hsem : DmaTarget.Typed (nD := nD) (τ := τ) (p := (Dev.tc c : Thread nD τ).2) .vmem (.dma qo) (.here (yV off inb))}
    {α : Type} {Q : α → sProp 𝕄} {k : PUnit → Prog (TpuEff nD τ sig (Elt F) Λ₀ .tc) α} :
    iprop(records m K ∗ full m c q ∗ (∃ f, yPts c (256 * q.val) (256 * q.val + 256) f) ∗ dutyTok ER (outCell c q) 0 0)
      ⊢ iprop((cred (tallyAt (outCell c q) () outCredit) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oV off inb) (.here (yV off inb)) (.dma qo) hsrc hdst hsem) k) Q) := by
  subst hq
  iintro ⟨#HR, Ho, ⟨%f, Hy⟩, Ht⟩ Hk
  unfold full oPts yPts
  iapply (Rounds.wp_copy_pointsTo 𝒱₀ ER (sched m) (c : Thread nD τ) none (src := oV off inb) (dst := yV off inb)
      (κ := K (c, .inr (.inr (.inr q)))) (r := 0) (d := 0) (fd := f) (fs := outAt m c) (q := fullShare)
      (by rw [duties_out]; exact Finset.mem_singleton_self _) () outCredit rfl (amount_out m c q 0)
      (by
        rw [payload_out, pointsTo_congr (copied_rows m c inb f), yV_set h inb, oV_set h inb]
        unfold outPay yPts oPts; exact BI.Entails.refl _)) $$ [Ho Hy Ht]
  · isplitr; · iapply (inv_at m K (c, .inr (.inr (.inr q)))); iexact HR
    isplitl [Ho]; · rw [oV_set h inb]; iexact Ho
    isplitl [Hy]; · rw [yV_set h inb]; iexact Hy
    isplitl [Ht]; · iexact Ht
    iapply (reached_at m K (c, .inr (.inr (.inr q)))); iexact HR
  iexact Hk

end Cert.ScatterProof

end
-- ==== Proof.Sending.lean ====
/-
# The body up to its last send

The handshake at the barrier and the eight sends, in the printed program's own pieces.
-/
module

public import proofs.«01_k».proof.Proof.Steps

@[expose] public section

noncomputable section

namespace Cert.ScatterProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ci → ℕ)

/-- Device `c` runs `e` and then has `Q`. -/
abbrev Runs (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

abbrev hW (b : Ref sig .tc) : (Memref.whole b).IsWhole := Memref.isWhole_whole b

/-! ## The handshake -/

/-- The slot of device `c`'s landing buffer kept for the device `d` places ahead. -/
def slot (c : Dev nD) (d : Fin 4) : sProp 𝕄 :=
  iprop(∃ f, tPts c (1024 * (ahead d.val c).val) (1024 * (ahead d.val c).val + 1024) f)

/-- Telling the device `d` places ahead that its slot is ready: the slot goes with the word. -/
theorem wp_signal_bar (c n' : Dev nD) (d : Fin 4) (hd : d ∈ ({1, 2, 3} : Finset (Fin 4))) (hn' : n' = ahead d.val c)
    {O₀ : CellTallies nD τ sig Unit} (O : CellTallies nD τ sig Unit) (hO : O₀ = O + tallyAt (barCell (ahead d.val c)) () 1) {W : Waits sig Unit}
    {α : Type} {Q : α → sProp 𝕄} {k : PUnit → Prog (TpuEff nD τ sig (Elt F) Λ₀ .tc) α} {k' : ℕ} (hk : k' = 1) :
    iprop(records m K ∗ slot c d ∗ dutyTok ER (barCell (ahead d.val c)) 0 d ∗ owes (c : Thread nD τ) O₀ W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS k') k) Q) := by
  subst hn' hk
  iintro ⟨#HR, Hs, Ht, HO⟩ Hk
  iapply (Rounds.wp_signal 𝒱₀ ER (sched m) (c : Thread nD τ) none (dst := (ahead d.val c : Thread nD τ)) (κ := K (ahead d.val c, .inl ()))
      (r := 0) (d := d) (by rw [duties_bar]; exact hd) (amount_bar m (ahead d.val c) d) () O hO) $$ [Hs Ht HO]
  · isplitr; · iapply (inv_at m K (ahead d.val c, .inl ())); iexact HR
    isplitl [HO]; · iexact HO
    isplitl [Ht]; · iexact Ht
    isplitl [Hs]
    · rw [payload_bar]; unfold barPay; rw [ahead_ahead]; unfold slot; iexact Hs
    iapply (reached_at m K (ahead d.val c, .inl ())); iexact HR
  iexact Hk

/-- Waiting for the three words: the three slots come, and the barrier cell closes. -/
theorem wp_wait_bar (c : Dev nD) {W : Waits sig Unit}
    {α : Type} {Q : α → sProp 𝕄} {k : PUnit → Prog (TpuEff nD τ sig (Elt F) Λ₀ .tc) α} {k' : ℕ} (hk : k' = 3) :
    iprop(records m K ∗ levAts L lv ∗ cred (tallyAt (barCell c) () 3) ∗ atPos ER (barCell c) 0 ∅ 0 ∗ owes (c : Thread nD τ) (owedChunks c 8) W)
      ⊢ iprop((((∃ W', owes (c : Thread nD τ) (owedChunks c 8) W') ∗ semVal (barCell c) 0 ∗ barPay c 1 ∗ barPay c 2 ∗ barPay c 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HR, #Hlev, Hc, Ha, HO⟩ Hk
  iapply (Rounds.wp_wait_rest_token 𝒱₀ ER (sched m) (c : Thread nD τ) none (κ := K (c, .inl ()))
      (wpE_semWait_eq 𝒱₀ (c : Thread nD τ) none Set.univ) (Set.mem_univ _) () (O := owedChunks c 8) (W := W) (R := 0) (m := 0) (T := ∅)
      (by rw [expect_bar])) $$ [Hc Ha HO]
  · isplitr; · iapply (inv_at m K (c, .inl ())); iexact HR
    isplitl [Hc]; · iexact Hc
    isplitl [HO]; · iexact HO
    isplitr; · iapply (mayWait_bar c); iexact Hlev
    iexact Ha
  iintro ⟨HO, Ha, -, Hp⟩
  imod (Rounds.cell_close ER (sched m) (Set.mem_univ (K (c, .inl ()))) (fun h => h) (R := 0 + 1) (duties_later m (barCell c))) $$ [Ha] with Hz
  · isplitr; · iapply (inv_at m K (c, .inl ())); iexact HR
    iexact Ha
  ihave Hp := (Entails.of_eq (rest_bar m c)) $$ Hp
  iapply Hk
  isplitl [HO]; · iexists _; iexact HO
  isplitl [Hz]; · iexact Hz
  iexact Hp

theorem part1 (c : Dev nD) (W : Waits sig Unit) (Q : (Σ' (d0 : Dev nD) (v2 : BitVec 32) (v3 : Sems sig S_) (v30 : BitVec 32) (c4_i32_18 : BitVec 32), BitVec 1) → sProp 𝕄) :
    iprop(records m K ∗ slot c 1 ∗ slot c 2 ∗ dutyTok ER (barCell (ahead 1 c)) 0 1 ∗ dutyTok ER (barCell (ahead 2 c)) 0 2
        ∗ owes (c : Thread nD τ) (owed0 c) W
        ∗ (∀ a b d e, owes (c : Thread nD τ) (owed3 c) W -∗ Q ⟨c, a, SemArray.scalar (sig.barrier 0 rfl), b, d, e⟩))
      ⊢ Runs c (k0_part1 xM (hW _) wM (hW _) aM (hW _) bM (hW _) yM (hW _) tM (hW _) oM (hW _) cc0_scratch2 cc0_scratch3 cc0_scratch4) Q := by
  rw [k0_part1_eq_skeleton]; unfold k0_part1_skel Runs
  simp only [semSignalWord, Prog.lift, Prog.bind_op, Prog.bind_ret, Prog.pure_eq_ret, wp_deviceId]
  iintro ⟨#HR, Hs1, Hs2, Ht1, Ht2, HO, Hk⟩
  iapply (wp_signal_bar m K c _ 1 (by decide) (dev1_eq c) (owed2 c) rfl (by decide)) $$ [Hs1 Ht1 HO]
  · isplitr; · iexact HR
    isplitl [Hs1]; · iexact Hs1
    isplitl [Ht1]; · iexact Ht1
    iexact HO
  iintro HO
  iapply (wp_signal_bar m K c _ 2 (by decide) (dev2_eq c) (owed3 c) rfl (by decide)) $$ [Hs2 Ht2 HO]
  · isplitr; · iexact HR
    isplitl [Hs2]; · iexact Hs2
    isplitl [Ht2]; · iexact Ht2
    iexact HO
  iintro HO
  rw [wp_ret]; imodintro
  iapply Hk; iexact HO

theorem part2 (c : Dev nD) (W : Waits sig Unit) (a b d) (e) (Q : PUnit → sProp 𝕄) :
    iprop(records m K ∗ levAts L lv ∗ slot c 3 ∗ dutyTok ER (barCell (ahead 3 c)) 0 3 ∗ cred (tallyAt (barCell c) () 3) ∗ atPos ER (barCell c) 0 ∅ 0
        ∗ owes (c : Thread nD τ) (owed3 c) W
        ∗ (((∃ W', owes (c : Thread nD τ) (owedChunks c 8) W') ∗ semVal (barCell c) 0 ∗ barPay c 1 ∗ barPay c 2 ∗ barPay c 3) -∗ Q ⟨⟩))
      ⊢ Runs c (k0_part2 xM (hW _) wM (hW _) aM (hW _) bM (hW _) yM (hW _) tM (hW _) oM (hW _) cc0_scratch2 cc0_scratch3 cc0_scratch4
          c a (SemArray.scalar (sig.barrier 0 rfl)) b d e) Q := by
  rw [k0_part2_eq_skeleton]; unfold k0_part2_skel Runs
  simp only [semSignalWord, semWaitWord, Prog.lift, Prog.bind_op, Prog.bind_ret, Prog.pure_eq_ret]
  iintro ⟨#HR, #Hlev, Hs, Ht, Hc, Ha, HO, Hk⟩
  iapply (wp_signal_bar m K c _ 3 (by decide) (dev3_eq c) (owedChunks c 8) rfl (by decide)) $$ [Hs Ht HO]
  · isplitr; · iexact HR
    isplitl [Hs]; · iexact Hs
    isplitl [Ht]; · iexact Ht
    iexact HO
  iintro HO
  iapply (wp_wait_bar m K c (by decide)) $$ [Hc Ha HO]
  · isplitr; · iexact HR
    isplitr; · iexact Hlev
    isplitl [Hc]; · iexact Hc
    isplitl [Ha]; · iexact Ha
    iexact HO
  iintro H
  rw [wp_ret]; imodintro
  iapply Hk; iexact H

/-! ## The sends -/

/-- A chunk on its way: the credit to wait for its rows with. -/
def away (c : Dev nD) (i : Fin 8) : sProp 𝕄 := cred (tallyAt (sendCell c i) () (amt i))
/-- Still to send the last `n` chunks. -/
def owing (c : Dev nD) (n : ℕ) : sProp 𝕄 := iprop(∃ W, owes (c : Thread nD τ) (owedChunks c n) W)

/-- One send of the body, chunk `i` when `n + 1` are left. -/
theorem wp_send_next (c n' : Dev nD) (i : Fin 8) (l : ℕ) (hi : i.val + l = 7) (hn' : n' = tgt c i) (n : ℕ) (hn : rows i = n) {off : Fin 2 → ℕ} {offt : Fin 3 → ℕ}
    (h : off = ![1024 * (tgt c i).val + part i, 0]) (ht : offt = ![c.val, part i, 0]) {inb inbt sq} (qs qr : DmaSem sig) (hs : qs = sSem i) (hr : qr = rSem i)
    {hsc : (tV n offt inbt sq : Memref sig (Dev.tc n' : Thread nD τ).2.kind .vmem (Sn n) .i8).view.ref.isScScratch = false}
    {hsrc : (xV n off inb).view.WordExact} {hdst : (tV n offt inbt sq).view.WordExact}
    {hsem : DmaTarget.Typed .vmem (.dma qr) (.remote (Dev.tc n' : Thread nD τ) (tV n offt inbt sq) (.dma qs) hsc)}
    {α : Type} {Q : α → sProp 𝕄} {k : PUnit → Prog (TpuEff nD τ sig (Elt F) Λ₀ .tc) α} :
    iprop(records m K ∗ ready m c i ∗ owing c (l + 1))
      ⊢ iprop(((away c i ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xV n off inb) (.remote (Dev.tc n' : Thread nD τ) (tV n offt inbt sq) (.dma qs) hsc) (.dma qr) hsrc hdst hsem) k) Q) := by
  have hO : owedChunks c (l + 1) = owedChunks c l + owedChunk c i := by
    have e : (⟨7 - l, by omega⟩ : Fin 8) = i := Fin.ext (by show 7 - l = i.val; omega)
    show owedChunks c l + owedChunk c (⟨7 - l, by omega⟩ : Fin 8) = _; rw [e]
  unfold owing away
  iintro ⟨#HR, Hrd, ⟨%W, HO⟩⟩ Hk
  iapply (wp_send_chunk m K c n' i hn' n hn h ht qs qr hs hr (owedChunks c l) hO) $$ [Hrd HO]
  · isplitr; · iexact HR
    isplitl [Hrd]; · iexact Hrd
    iexact HO
  iintro ⟨Hc, HO⟩
  iapply Hk
  isplitl [Hc]; · iexact Hc
  iexists W; iexact HO

theorem part3 (c : Dev nD) (v2 : BitVec 32) (Q : (Σ' (v89 : BitVec 32) (v90 : BitVec 32), BitVec 1) → sProp 𝕄) :
    iprop(records m K ∗ ready m c 0 ∗ ready m c 1 ∗ owing c 8 ∗ (∀ r, (away c 0 ∗ away c 1 ∗ owing c 6) -∗ Q r))
      ⊢ Runs c (k0_part3 xM (hW _) wM (hW _) aM (hW _) bM (hW _) yM (hW _) tM (hW _) oM (hW _) cc0_scratch2 cc0_scratch3 cc0_scratch4 c v2) Q := by
  rw [k0_part3_eq_skeleton]; unfold k0_part3_skel Runs
  simp only [Prog.lift, Prog.bind_op, Prog.bind_ret, Prog.pure_eq_ret]
  iintro ⟨#HR, H0, H1, HO, Hk⟩
  iapply (wp_send_next m K c _ 0 7 rfl (dev4_eq c) 512 rfl (off2_10 c) (off1_at c) _ _ rfl rfl) $$ [H0 HO]
  · isplitr; · iexact HR
    isplitl [H0]; · iexact H0
    iexact HO
  iintro ⟨C0, HO⟩
  iapply (wp_send_next m K c _ 1 6 rfl (dev5_eq c) 512 rfl (off2_11 c) (off3_at c) _ _ rfl rfl) $$ [H1 HO]
  · isplitr; · iexact HR
    isplitl [H1]; · iexact H1
    iexact HO
  iintro ⟨C1, HO⟩
  rw [wp_ret]; imodintro
  iapply Hk
  isplitl [C0]; · iexact C0
  isplitl [C1]; · iexact C1
  iexact HO

theorem part4 (c : Dev nD) (v2 v89 v90) (v95) (Q : PUnit → sProp 𝕄) :
    iprop(records m K ∗ ready m c 2 ∗ owing c 6 ∗ ((away c 2 ∗ owing c 5) -∗ Q ⟨⟩))
      ⊢ Runs c (k0_part4 xM (hW _) wM (hW _) aM (hW _) bM (hW _) yM (hW _) tM (hW _) oM (hW _) cc0_scratch2 cc0_scratch3 cc0_scratch4 c v2 v89 v90 v95) Q := by
  rw [k0_part4_eq_skeleton]; unfold k0_part4_skel Runs
  simp only [Prog.lift, Prog.bind_op, Prog.bind_ret, Prog.pure_eq_ret]
  iintro ⟨#HR, H0, HO, Hk⟩
  iapply (wp_send_next m K c _ 2 5 rfl (dev6_eq c) 512 rfl (off2_30 c) (off1_at c) _ _ rfl rfl) $$ [H0 HO]
  · isplitr; · iexact HR
    isplitl [H0]; · iexact H0
    iexact HO
  iintro H
  rw [wp_ret]; imodintro
  iapply Hk; iexact H

theorem part5 (c : Dev nD) (v2 : BitVec 32) (Q : (Σ' (v155 : BitVec 32) (v156 : BitVec 32) (v157 : BitVec 1) (v158 : BitVec 1), BitVec 32) → sProp 𝕄) :
    iprop(records m K ∗ ready m c 3 ∗ ready m c 4 ∗ owing c 5 ∗ (∀ r, (away c 3 ∗ away c 4 ∗ owing c 3) -∗ Q r))
      ⊢ Runs c (k0_part5 xM (hW _) wM (hW _) aM (hW _) bM (hW _) yM (hW _) tM (hW _) oM (hW _) cc0_scratch2 cc0_scratch3 cc0_scratch4 c v2) Q := by
  rw [k0_part5_eq_skeleton]; unfold k0_part5_skel Runs
  simp only [Prog.lift, Prog.bind_op, Prog.bind_ret, Prog.pure_eq_ret]
  iintro ⟨#HR, H0, H1, HO, Hk⟩
  iapply (wp_send_next m K c _ 3 4 rfl (dev7_eq c) 512 rfl (off2_31 c) (off3_at c) _ _ rfl rfl) $$ [H0 HO]
  · isplitr; · iexact HR
    isplitl [H0]; · iexact H0
    iexact HO
  iintro ⟨C0, HO⟩
  iapply (wp_send_next m K c _ 4 3 rfl (dev8_eq c) 256 rfl (off5_0 c) (off4_at c) _ _ rfl rfl) $$ [H1 HO]
  · isplitr; · iexact HR
    isplitl [H1]; · iexact H1
    iexact HO
  iintro ⟨C1, HO⟩
  rw [wp_ret]; imodintro
  iapply Hk
  isplitl [C0]; · iexact C0
  isplitl [C1]; · iexact C1
  iexact HO

theorem part6 (c : Dev nD) (v2 v155 v156) (v157 v158) (v159) (Q : PUnit → sProp 𝕄) :
    iprop(records m K ∗ ready m c 5 ∗ owing c 3 ∗ ((away c 5 ∗ owing c 2) -∗ Q ⟨⟩))
      ⊢ Runs c (k0_part6 xM (hW _) wM (hW _) aM (hW _) bM (hW _) yM (hW _) tM (hW _) oM (hW _) cc0_scratch2 cc0_scratch3 cc0_scratch4 c v2 v155 v156 v157 v158 v159) Q := by
  rw [k0_part6_eq_skeleton]; unfold k0_part6_skel Runs
  simp only [Prog.lift, Prog.bind_op, Prog.bind_ret, Prog.pure_eq_ret]
  iintro ⟨#HR, H0, HO, Hk⟩
  iapply (wp_send_next m K c _ 5 2 rfl (dev9_eq c) 256 rfl (off5_1 c) (off6_at c) _ _ rfl rfl) $$ [H0 HO]
  · isplitr; · iexact HR
    isplitl [H0]; · iexact H0
    iexact HO
  iintro H
  rw [wp_ret]; imodintro
  iapply Hk; iexact H

/-- The two staged scales. -/
def scales (c : Dev nD) : sProp 𝕄 :=
  iprop((((c : Thread nD τ).loc cc0_stg2_0) ↦{fullShare} (astg m c : Buf (Elt F) ((c : Thread nD τ).loc cc0_stg2_0)))
    ∗ (((c : Thread nD τ).loc cc0_stg3_0) ↦{fullShare} (bstg m c : Buf (Elt F) ((c : Thread nD τ).loc cc0_stg3_0))))

theorem part7 (c : Dev nD) (v2 : BitVec 32) (Q : F .f32 → sProp 𝕄) :
    iprop(records m K ∗ ready m c 6 ∗ ready m c 7 ∗ owing c 2 ∗ scales m c ∗ ((away c 6 ∗ away c 7 ∗ free c ∗ scales m c) -∗ Q (scl m c)))
      ⊢ Runs c (k0_part7 xM (hW _) wM (hW _) aM (hW _) bM (hW _) yM (hW _) tM (hW _) oM (hW _) cc0_scratch2 cc0_scratch3 cc0_scratch4 c v2) Q := by
  rw [k0_part7_eq_skeleton]; unfold k0_part7_skel Runs scl aVal bVal
  simp only [smemLoad, smemLoadElt, Prog.lift, Prog.bind_op, Prog.bind_ret, Prog.pure_eq_ret]
  iintro ⟨#HR, H0, H1, HO, Hs, Hk⟩
  iapply (wp_send_next m K c _ 6 1 rfl (dev10_eq c) 256 rfl (off5_2 c) (off7_at c) _ _ rfl rfl) $$ [H0 HO]
  · isplitr; · iexact HR
    isplitl [H0]; · iexact H0
    iexact HO
  iintro ⟨C0, HO⟩
  iapply (wp_send_next m K c _ 7 0 rfl (dev11_eq c) 256 rfl (off5_3 c) (off8_at c) _ _ rfl rfl) $$ [H1 HO]
  · isplitr; · iexact HR
    isplitl [H1]; · iexact H1
    iexact HO
  iintro ⟨C1, HO⟩
  unfold scales
  icases Hs with ⟨Ha, Hb⟩
  iapply (wp_load_rect 𝒱₀ (c : Thread nD τ) none Set.univ (m := aM) (r := r1) (f := astg m c) (Finset.subset_univ _)) $$ Ha; iintro Ha
  iapply (wp_load_rect 𝒱₀ (c : Thread nD τ) none Set.univ (m := bM) (r := r1) (f := bstg m c) (Finset.subset_univ _)) $$ Hb; iintro Hb
  rw [wp_ret]; imodintro
  iapply Hk
  isplitl [C0]; · iexact C0
  isplitl [C1]; · iexact C1
  isplitl [HO]; · unfold owing free; iexact HO
  isplitl [Ha] <;> iassumption

end Cert.ScatterProof

end
-- ==== Proof.Receiving.lean ====
/-
# The body after its last send

The own block, the chunks as they come, the four quarters stored and copied out, and the last waits, in the printed
program's own pieces.
-/
module

public import proofs.«01_k».proof.Proof.Sending

@[expose] public section

noncomputable section

namespace Cert.ScatterProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ci → ℕ)

/-! ## The states a chunk and a quarter go through -/

/-- A chunk to come; a chunk landed. -/
def due (c : Dev nD) (i : Fin 8) : sProp 𝕄 := iprop(cred (tallyAt (recvCell c i) () (amt i)) ∗ atPos ER (recvCell c i) 0 ∅ 0)
def got (c : Dev nD) (i : Fin 8) : sProp 𝕄 := iprop(recvPay m c i ∗ semVal (recvCell c i) 0)
/-- A chunk sent and its rows back. -/
def back (c : Dev nD) (i : Fin 8) : sProp 𝕄 := iprop(sendPay m c i ∗ semVal (sendCell c i) 0)
/-- A quarter on its way to the result array; there. -/
def leaving (c : Dev nD) (q : Fin 4) : sProp 𝕄 := cred (tallyAt (outCell c q) () outCredit)
def home (c : Dev nD) (q : Fin 4) : sProp 𝕄 := iprop(outPay m c q ∗ semVal (outCell c q) 0)
/-- The place of a quarter in the result array and the duty of copying it there. -/
def dest (c : Dev nD) (q : Fin 4) : sProp 𝕄 :=
  iprop((∃ f, yPts c (256 * q.val) (256 * q.val + 256) f) ∗ dutyTok ER (outCell c q) 0 0)
/-- The staged weights; the device's own rows of its shard. -/
def weights (c : Dev nD) : sProp 𝕄 := ((c : Thread nD τ).loc cc0_stg1_0) ↦{fullShare} (wstg m c : Buf (Elt F) ((c : Thread nD τ).loc cc0_stg1_0))
def own (c : Dev nD) : sProp 𝕄 := xPts c (1024 * c.val) (1024 * c.val + 1024) (xstg m c)

section Rules
theorem wp_recv (c : Dev nD) (i : Fin 8) (q : DmaSem sig) (hq : q = rSem i)
    {sp sp' : Space} {s : Shape} {e : EltTy} {srcv : Memref sig .tc sp s e} {dstv : Memref sig .tc sp' s e}
    (hN : dstv.view.dmaCredit = amt i) {h₁ h₂} {α : Type} {Q : α → sProp 𝕄} {k : PUnit → Prog (TpuEff nD τ sig (Elt F) Λ₀ .tc) α} :
    iprop(records m K ∗ due c i ∗ free c)
      ⊢ iprop(((got m c i ∗ free c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcv dstv h₁ h₂) k) Q) := by
  unfold due got
  iintro ⟨#HR, ⟨Hc, Ha⟩, Hf⟩ Hk
  iapply (wp_wait_cell m K c (.inr (.inl i)) q hq (amt i) (expect_recv m c i) (rest_recv m c i) hN) $$ [Hc Ha Hf]
  · isplitr; · iexact HR
    isplitl [Hc]; · iexact Hc
    isplitl [Ha]; · iexact Ha
    iexact Hf
  iintro ⟨Hp, Hz, Hf⟩
  iapply Hk
  isplitr [Hf]
  · isplitl [Hp]; · iexact Hp
    iexact Hz
  iexact Hf

theorem wp_sent (c : Dev nD) (i : Fin 8) (q : DmaSem sig) (hq : q = sSem i)
    {sp sp' : Space} {s : Shape} {e : EltTy} {srcv : Memref sig .tc sp s e} {dstv : Memref sig .tc sp' s e}
    (hN : dstv.view.dmaCredit = amt i) {h₁ h₂} {α : Type} {Q : α → sProp 𝕄} {k : PUnit → Prog (TpuEff nD τ sig (Elt F) Λ₀ .tc) α} :
    iprop(records m K ∗ away c i ∗ atPos ER (sendCell c i) 0 ∅ 0 ∗ free c)
      ⊢ iprop(((back m c i ∗ free c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcv dstv h₁ h₂) k) Q) := by
  unfold away back
  iintro ⟨#HR, Hc, Ha, Hf⟩ Hk
  iapply (wp_wait_cell m K c (.inl i) q hq (amt i) (expect_send m c i) (rest_send m c i) hN) $$ [Hc Ha Hf]
  · isplitr; · iexact HR
    isplitl [Hc]; · iexact Hc
    isplitl [Ha]; · iexact Ha
    iexact Hf
  iintro ⟨Hp, Hz, Hf⟩
  iapply Hk
  isplitr [Hf]
  · isplitl [Hp]; · iexact Hp
    iexact Hz
  iexact Hf

theorem wp_home (c : Dev nD) (i : Fin 4) (q : DmaSem sig) (hq : q = oSem i)
    {sp sp' : Space} {s : Shape} {e : EltTy} {srcv : Memref sig .tc sp s e} {dstv : Memref sig .tc sp' s e}
    (hN : dstv.view.dmaCredit = outCredit) {h₁ h₂} {α : Type} {Q : α → sProp 𝕄} {k : PUnit → Prog (TpuEff nD τ sig (Elt F) Λ₀ .tc) α} :
    iprop(records m K ∗ leaving c i ∗ atPos ER (outCell c i) 0 ∅ 0 ∗ free c)
      ⊢ iprop(((home m c i ∗ free c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcv dstv h₁ h₂) k) Q) := by
  unfold leaving home
  iintro ⟨#HR, Hc, Ha, Hf⟩ Hk
  iapply (wp_wait_cell m K c (.inr (.inr i)) q hq outCredit (expect_out m c i) (rest_out m c i) hN) $$ [Hc Ha Hf]
  · isplitr; · iexact HR
    isplitl [Hc]; · iexact Hc
    isplitl [Ha]; · iexact Ha
    iexact Hf
  iintro ⟨Hp, Hz, Hf⟩
  iapply Hk
  isplitr [Hf]
  · isplitl [Hp]; · iexact Hp
    iexact Hz
  iexact Hf

/-- The chunk landed, loaded. -/
theorem wp_load_got (c : Dev nD) (i : Fin 8) (n : ℕ) (hn : rows i = n) {off : Fin 3 → ℕ} (h : off = ![(src c i).val, part i, 0]) {inb} {hx}
    {α : Type} {Q : α → sProp 𝕄} {k : Vec F (S1n n) .i8 → Prog (TpuEff nD τ sig (Elt F) Λ₀ .tc) α} :
    (got m c i : sProp 𝕄)
      ⊢ iprop((got m c i -∗ wp frame (wpE (defs₀ (F := F)) 𝒱₀ (c : Thread nD τ) none) Set.univ
            (k (tM.view.readAt (Elt F) (Rect.unit (s := S4x1024x1024) off (S1n n).size inb).toLoadRect (landed m c))) Q)
          -∗ wp frame (wpE (defs₀ (F := F)) 𝒱₀ (c : Thread nD τ) none) Set.univ
              (.op (.load tM (Rect.unit (s := S4x1024x1024) off (S1n n).size inb).toLoadRect hx) k) Q) := by
  subst hn
  unfold got recvPay
  iintro ⟨Hp, Hz⟩ Hk
  iapply (wp_load_t c (part_rows i) h) $$ Hp
  iintro Hp
  iapply Hk
  isplitl [Hp] <;> iassumption

/-- A block of the weights loaded. -/
theorem wp_load_w (c : Dev nD) {off : Fin 2 → ℕ} {inb} {hx} {α : Type} {Q : α → sProp 𝕄} {k : Vec F S1024x2048 .i8 → Prog (TpuEff nD τ sig (Elt F) Λ₀ .tc) α} :
    (weights m c : sProp 𝕄)
      ⊢ iprop((weights m c -∗ wp frame (wpE (defs₀ (F := F)) 𝒱₀ (c : Thread nD τ) none) Set.univ (k (ldW off inb (wstg m c))) Q)
          -∗ wp frame (wpE (defs₀ (F := F)) 𝒱₀ (c : Thread nD τ) none) Set.univ
              (.op (.load wM (Rect.unit (s := S4096x2048) off S1024x2048.size inb).toLoadRect hx) k) Q) := by
  unfold weights
  exact wp_load 𝒱₀ (c : Thread nD τ) none Set.univ (m := wM) (Finset.subset_univ _)

/-- Quarter `q` copied out, from its duty and its place. -/
theorem wp_leave (c : Dev nD) (q : Fin 4) {off : Fin 2 → ℕ} (h : off = ![256 * q.val, 0]) {inb} (qo : DmaSem sig) (hq : qo = oSem q) {hsrc hdst}
    {hsem : DmaTarget.Typed (nD := nD) (τ := τ) (p := (Dev.tc c : Thread nD τ).2) .vmem (.dma qo) (.here (yV off inb))}
    {α : Type} {Q : α → sProp 𝕄} {k : PUnit → Prog (TpuEff nD τ sig (Elt F) Λ₀ .tc) α} :
    iprop(records m K ∗ full m c q ∗ dest c q)
      ⊢ iprop((leaving c q -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oV off inb) (.here (yV off inb)) (.dma qo) hsrc hdst hsem) k) Q) := by
  unfold dest leaving
  exact wp_copy_o m K c q h qo hq

end Rules

/-! ## The pieces -/

theorem part8 (c : Dev nD) (v2 : BitVec 32) (Q : (Σ' (v232 : IVec S256x2048 32) (v233 : IVec S256x2048 32) (v244 : IVec S256x2048 32) (v245 : IVec S256x2048 32) (v256 : BitVec 32) (v259 : BitVec 32) (v260 : BitVec 32) (v261 : BitVec 1), BitVec 32) → sProp 𝕄) :
    iprop(own m c ∗ weights m c
        ∗ (∀ a b d e f, (own m c ∗ weights m c) -∗
            Q ⟨k0_pay3 (xTop m c) (w0 m c), k0_pay4 (xTop m c) (w0 m c), k0_pay6 (xBot m c) (w0 m c), k0_pay7 (xBot m c) (w0 m c), a, b, d, e, f⟩))
      ⊢ Runs c (k0_part8 xM (hW _) wM (hW _) aM (hW _) bM (hW _) yM (hW _) tM (hW _) oM (hW _) cc0_scratch2 cc0_scratch3 cc0_scratch4 c v2) Q := by
  rw [k0_part8_eq_skeleton]; unfold k0_part8_skel Runs own xTop xBot w0
  simp only [Prog.lift, Prog.bind_op, Prog.bind_ret, Prog.pure_eq_ret]
  iintro ⟨Hx, Hw, Hk⟩
  iapply (wp_load_x c (l := 1024 * c.val) (le_refl _) (by omega) (off9_0 c)) $$ Hx; iintro Hx
  iapply (wp_load_w m c) $$ Hw; iintro Hw
  iapply (wp_load_x c (l := 1024 * c.val + 512) (by omega) (by omega) (off9_1 c)) $$ Hx; iintro Hx
  iapply (wp_load_w m c) $$ Hw; iintro Hw
  rw [wp_ret]; imodintro
  iapply Hk
  isplitl [Hx] <;> iassumption

theorem part9 (c : Dev nD) (v2 v256 v259 v260) (v261) (v262) (Q : (Σ' (v295 : IVec S512x2048 32), IVec S256x2048 32) → sProp 𝕄) :
    iprop(records m K ∗ due c 0 ∗ weights m c ∗ free c
        ∗ ((got m c 0 ∗ weights m c ∗ free c) -∗ Q ⟨k0_pay8 (t1Top m c) (w1 m c), k0_pay9 (t1Top m c) (w1 m c)⟩))
      ⊢ Runs c (k0_part9 xM (hW _) wM (hW _) aM (hW _) bM (hW _) yM (hW _) tM (hW _) oM (hW _) cc0_scratch2 cc0_scratch3 cc0_scratch4 c v2 v256 v259 v260 v261 v262) Q := by
  rw [k0_part9_eq_skeleton]; unfold k0_part9_skel Runs t1Top w1
  simp only [Prog.lift, Prog.bind_op, Prog.bind_ret, Prog.pure_eq_ret]
  iintro ⟨#HR, Hd, Hw, Hf, Hk⟩
  iapply (wp_recv m K c 0 _ rfl rfl) $$ [Hd Hf]
  · isplitr; · iexact HR
    isplitl [Hd] <;> iassumption
  iintro ⟨Hg, Hf⟩
  iapply (wp_load_got m c 0 512 rfl (off12_1 c)) $$ Hg; iintro Hg
  iapply (wp_load_w m c) $$ Hw; iintro Hw
  rw [wp_ret]; imodintro
  iapply Hk
  isplitl [Hg]; · iexact Hg
  isplitl [Hw] <;> iassumption

theorem part10 (c : Dev nD) (v2 v232 v233 v295 v296) (Q : (Σ' (v297 : IVec S256x2048 32), IVec S256x2048 32) → sProp 𝕄) :
    iprop(records m K ∗ due c 2 ∗ free c ∗ ((got m c 2 ∗ free c) -∗ Q ⟨k0_pay10 v232 v296, k0_pay11 v233 v295⟩))
      ⊢ Runs c (k0_part10 xM (hW _) wM (hW _) aM (hW _) bM (hW _) yM (hW _) tM (hW _) oM (hW _) cc0_scratch2 cc0_scratch3 cc0_scratch4 c v2 v232 v233 v295 v296) Q := by
  rw [k0_part10_eq_skeleton]; unfold k0_part10_skel Runs
  simp only [Prog.lift, Prog.bind_op, Prog.bind_ret, Prog.pure_eq_ret]
  iintro ⟨#HR, Hd, Hf, Hk⟩
  iapply (wp_recv m K c 2 _ rfl rfl) $$ [Hd Hf]
  · isplitr; · iexact HR
    isplitl [Hd] <;> iassumption
  iintro H
  rw [wp_ret]; imodintro
  iapply Hk; iexact H

theorem part11 (c : Dev nD) (v2 v297 v299) (Q : (Σ' (v351 : IVec S256x2048 32) (v353 : IVec S256x2048 32) (v364 : BitVec 32) (v365 : BitVec 32), BitVec 32) → sProp 𝕄) :
    iprop(got m c 2 ∗ weights m c
        ∗ (∀ a b d, (got m c 2 ∗ weights m c) -∗ Q ⟨k0_pay13 v297 (t3Top m c) (w3 m c), k0_pay14 v299 (t3Top m c) (w3 m c), a, b, d⟩))
      ⊢ Runs c (k0_part11 xM (hW _) wM (hW _) aM (hW _) bM (hW _) yM (hW _) tM (hW _) oM (hW _) cc0_scratch2 cc0_scratch3 cc0_scratch4 c v2 v297 v299) Q := by
  rw [k0_part11_eq_skeleton]; unfold k0_part11_skel Runs t3Top w3
  simp only [Prog.lift, Prog.bind_op, Prog.bind_ret, Prog.pure_eq_ret]
  iintro ⟨Hg, Hw, Hk⟩
  iapply (wp_load_got m c 2 512 rfl (off12_3 c)) $$ Hg; iintro Hg
  iapply (wp_load_w m c) $$ Hw; iintro Hw
  rw [wp_ret]; imodintro
  iapply Hk
  isplitl [Hg] <;> iassumption

theorem part12 (c : Dev nD) (v2 v364 v365 v367) (Q : (Σ' (v398 : IVec S256x1024 8), Vec F S1024x2048 .i8) → sProp 𝕄) :
    iprop(records m K ∗ due c 4 ∗ weights m c ∗ free c
        ∗ ((got m c 4 ∗ weights m c ∗ free c) -∗ Q ⟨k0_pay15 (t2q0 m c), w2 m c⟩))
      ⊢ Runs c (k0_part12 xM (hW _) wM (hW _) aM (hW _) bM (hW _) yM (hW _) tM (hW _) oM (hW _) cc0_scratch2 cc0_scratch3 cc0_scratch4 c v2 v364 v365 v367) Q := by
  rw [k0_part12_eq_skeleton]; unfold k0_part12_skel Runs t2q0 w2
  simp only [Prog.lift, Prog.bind_op, Prog.bind_ret, Prog.pure_eq_ret]
  iintro ⟨#HR, Hd, Hw, Hf, Hk⟩
  iapply (wp_recv m K c 4 _ rfl rfl) $$ [Hd Hf]
  · isplitr; · iexact HR
    isplitl [Hd] <;> iassumption
  iintro ⟨Hg, Hf⟩
  iapply (wp_load_got m c 4 256 rfl (off15_at c)) $$ Hg; iintro Hg
  iapply (wp_load_w m c) $$ Hw; iintro Hw
  rw [wp_ret]; imodintro
  iapply Hk
  isplitl [Hg]; · iexact Hg
  isplitl [Hw] <;> iassumption

theorem part13 (c : Dev nD) (v2 v221 v351 v398 v401) (hv : k0_pay16 v221 v351 v398 v401 = outQ m c 0) (Q : (Σ' (v425 : BitVec 32), BitVec 32) → sProp 𝕄) :
    iprop(records m K ∗ blank c 0 ∗ dest c 0 ∗ (∀ r, leaving c 0 -∗ Q r))
      ⊢ Runs c (k0_part13 xM (hW _) wM (hW _) aM (hW _) bM (hW _) yM (hW _) tM (hW _) oM (hW _) cc0_scratch2 cc0_scratch3 cc0_scratch4 v2 v221 v351 v398 v401) Q := by
  rw [k0_part13_eq_skeleton]; unfold k0_part13_skel Runs
  simp only [Prog.lift, Prog.bind_op, Prog.bind_ret, Prog.pure_eq_ret]
  iintro ⟨#HR, Ho, Hd, Hk⟩
  iapply (wp_load_o c 0 rfl) $$ Ho; iintro %v Ho
  iapply (wp_store_o m c 0 rfl hv) $$ Ho; iintro Ho
  iapply (wp_leave m K c 0 rfl _ rfl) $$ [Ho Hd]
  · isplitr; · iexact HR
    isplitl [Ho] <;> iassumption
  iintro H
  rw [wp_ret]; imodintro
  iapply Hk; iexact H

theorem part14 (c : Dev nD) (v2 v221 v353 v425 v426) (Q : FVec F S256x2048 .f32 → sProp 𝕄) :
    iprop(records m K ∗ due c 5 ∗ weights m c ∗ free c ∗ blank c 1
        ∗ ((got m c 5 ∗ weights m c ∗ free c ∗ blank c 1) -∗ Q (k0_pay17 v221 v353 (t2q1 m c) (w2 m c))))
      ⊢ Runs c (k0_part14 xM (hW _) wM (hW _) aM (hW _) bM (hW _) yM (hW _) tM (hW _) oM (hW _) cc0_scratch2 cc0_scratch3 cc0_scratch4 c v2 v221 v353 v425 v426) Q := by
  rw [k0_part14_eq_skeleton]; unfold k0_part14_skel Runs t2q1 w2
  simp only [Prog.lift, Prog.bind_op, Prog.bind_ret, Prog.pure_eq_ret]
  iintro ⟨#HR, Hd, Hw, Hf, Ho, Hk⟩
  iapply (wp_recv m K c 5 _ rfl rfl) $$ [Hd Hf]
  · isplitr; · iexact HR
    isplitl [Hd] <;> iassumption
  iintro ⟨Hg, Hf⟩
  iapply (wp_load_got m c 5 256 rfl (off17_at c)) $$ Hg; iintro Hg
  iapply (wp_load_w m c) $$ Hw; iintro Hw
  iapply (wp_load_o c 1 rfl) $$ Ho; iintro %v Ho
  rw [wp_ret]; imodintro
  iapply Hk
  isplitl [Hg]; · iexact Hg
  isplitl [Hw]; · iexact Hw
  isplitl [Hf] <;> iassumption

theorem part15 (c : Dev nD) (v2 v471) (hv : v471 = outQ m c 1) (Q : PUnit → sProp 𝕄) :
    iprop(records m K ∗ blank c 1 ∗ dest c 1 ∗ (leaving c 1 -∗ Q ⟨⟩))
      ⊢ Runs c (k0_part15 xM (hW _) wM (hW _) aM (hW _) bM (hW _) yM (hW _) tM (hW _) oM (hW _) cc0_scratch2 cc0_scratch3 cc0_scratch4 v2 v471) Q := by
  rw [k0_part15_eq_skeleton]; unfold k0_part15_skel Runs
  simp only [Prog.lift, Prog.bind_op, Prog.bind_ret, Prog.pure_eq_ret]
  iintro ⟨#HR, Ho, Hd, Hk⟩
  iapply (wp_store_o m c 1 rfl hv) $$ Ho; iintro Ho
  iapply (wp_leave m K c 1 rfl _ rfl) $$ [Ho Hd]
  · isplitr; · iexact HR
    isplitl [Ho] <;> iassumption
  iintro H
  rw [wp_ret]; imodintro
  iapply Hk; iexact H

theorem part16 (c : Dev nD) (v2 v244 v245) (Q : (Σ' (v527 : IVec S256x2048 32) (v529 : IVec S256x2048 32) (v533 : BitVec 32) (v538 : BitVec 1), BitVec 32) → sProp 𝕄) :
    iprop(records m K ∗ due c 1 ∗ weights m c ∗ free c
        ∗ (∀ a b d, (got m c 1 ∗ weights m c ∗ free c) -∗ Q ⟨k0_pay19 v244 (t1Bot m c) (w1 m c), k0_pay20 v245 (t1Bot m c) (w1 m c), a, b, d⟩))
      ⊢ Runs c (k0_part16 xM (hW _) wM (hW _) aM (hW _) bM (hW _) yM (hW _) tM (hW _) oM (hW _) cc0_scratch2 cc0_scratch3 cc0_scratch4 c v2 v244 v245) Q := by
  rw [k0_part16_eq_skeleton]; unfold k0_part16_skel Runs t1Bot w1
  simp only [Prog.lift, Prog.bind_op, Prog.bind_ret, Prog.pure_eq_ret]
  iintro ⟨#HR, Hd, Hw, Hf, Hk⟩
  iapply (wp_recv m K c 1 _ rfl rfl) $$ [Hd Hf]
  · isplitr; · iexact HR
    isplitl [Hd] <;> iassumption
  iintro ⟨Hg, Hf⟩
  iapply (wp_load_got m c 1 512 rfl (off19_1 c)) $$ Hg; iintro Hg
  iapply (wp_load_w m c) $$ Hw; iintro Hw
  rw [wp_ret]; imodintro
  iapply Hk
  isplitl [Hg]; · iexact Hg
  isplitl [Hw] <;> iassumption

theorem part17 (c : Dev nD) (v2 v533) (v538) (v539) (Q : BitVec 32 → sProp 𝕄) :
    iprop(records m K ∗ due c 3 ∗ free c ∗ (∀ r, (got m c 3 ∗ free c) -∗ Q r))
      ⊢ Runs c (k0_part17 xM (hW _) wM (hW _) aM (hW _) bM (hW _) yM (hW _) tM (hW _) oM (hW _) cc0_scratch2 cc0_scratch3 cc0_scratch4 c v2 v533 v538 v539) Q := by
  rw [k0_part17_eq_skeleton]; unfold k0_part17_skel Runs
  simp only [Prog.lift, Prog.bind_op, Prog.bind_ret, Prog.pure_eq_ret]
  iintro ⟨#HR, Hd, Hf, Hk⟩
  iapply (wp_recv m K c 3 _ rfl rfl) $$ [Hd Hf]
  · isplitr; · iexact HR
    isplitl [Hd] <;> iassumption
  iintro H
  rw [wp_ret]; imodintro
  iapply Hk; iexact H

theorem part18 (c : Dev nD) (v2 v527 v529 v571) (Q : (Σ' (v581 : IVec S256x2048 32) (v583 : IVec S256x2048 32) (v594 : BitVec 32), BitVec 32) → sProp 𝕄) :
    iprop(got m c 3 ∗ weights m c
        ∗ (∀ a b, (got m c 3 ∗ weights m c) -∗ Q ⟨k0_pay22 v527 (t3Bot m c) (w3 m c), k0_pay23 v529 (t3Bot m c) (w3 m c), a, b⟩))
      ⊢ Runs c (k0_part18 xM (hW _) wM (hW _) aM (hW _) bM (hW _) yM (hW _) tM (hW _) oM (hW _) cc0_scratch2 cc0_scratch3 cc0_scratch4 c v2 v527 v529 v571) Q := by
  rw [k0_part18_eq_skeleton]; unfold k0_part18_skel Runs t3Bot w3
  simp only [Prog.lift, Prog.bind_op, Prog.bind_ret, Prog.pure_eq_ret]
  iintro ⟨Hg, Hw, Hk⟩
  iapply (wp_load_got m c 3 512 rfl (off19_3 c)) $$ Hg; iintro Hg
  iapply (wp_load_w m c) $$ Hw; iintro Hw
  rw [wp_ret]; imodintro
  iapply Hk
  isplitl [Hg] <;> iassumption

theorem part19 (c : Dev nD) (v2 v221 v581 v594 v595) (hv : k0_pay24 v221 v581 (t2q2 m c) (w2 m c) = outQ m c 2) (Q : PUnit → sProp 𝕄) :
    iprop(records m K ∗ due c 6 ∗ weights m c ∗ free c ∗ blank c 2 ∗ ((got m c 6 ∗ weights m c ∗ free c ∗ full m c 2) -∗ Q ⟨⟩))
      ⊢ Runs c (k0_part19 xM (hW _) wM (hW _) aM (hW _) bM (hW _) yM (hW _) tM (hW _) oM (hW _) cc0_scratch2 cc0_scratch3 cc0_scratch4 c v2 v221 v581 v594 v595) Q := by
  rw [k0_part19_eq_skeleton]; unfold k0_part19_skel Runs; unfold t2q2 w2 at hv
  simp only [Prog.lift, Prog.bind_op, Prog.bind_ret, Prog.pure_eq_ret]
  iintro ⟨#HR, Hd, Hw, Hf, Ho, Hk⟩
  iapply (wp_recv m K c 6 _ rfl rfl) $$ [Hd Hf]
  · isplitr; · iexact HR
    isplitl [Hd] <;> iassumption
  iintro ⟨Hg, Hf⟩
  iapply (wp_load_got m c 6 256 rfl (off21_at c)) $$ Hg; iintro Hg
  iapply (wp_load_w m c) $$ Hw; iintro Hw
  iapply (wp_load_o c 2 rfl) $$ Ho; iintro %v Ho
  iapply (wp_store_o m c 2 rfl hv) $$ Ho; iintro Ho
  rw [wp_ret]; imodintro
  iapply Hk
  isplitl [Hg]; · iexact Hg
  isplitl [Hw]; · iexact Hw
  isplitl [Hf] <;> iassumption

theorem part20 (c : Dev nD) (v2) (Q : PUnit → sProp 𝕄) :
    iprop(records m K ∗ full m c 2 ∗ dest c 2 ∗ due c 7 ∗ free c ∗ ((leaving c 2 ∗ got m c 7 ∗ free c) -∗ Q ⟨⟩))
      ⊢ Runs c (k0_part20 xM (hW _) wM (hW _) aM (hW _) bM (hW _) yM (hW _) tM (hW _) oM (hW _) cc0_scratch2 cc0_scratch3 cc0_scratch4 c v2) Q := by
  rw [k0_part20_eq_skeleton]; unfold k0_part20_skel Runs
  simp only [Prog.lift, Prog.bind_op, Prog.bind_ret, Prog.pure_eq_ret]
  iintro ⟨#HR, Ho, Hq, Hd, Hf, Hk⟩
  iapply (wp_leave m K c 2 rfl _ rfl) $$ [Ho Hq]
  · isplitr; · iexact HR
    isplitl [Ho] <;> iassumption
  iintro Hl
  iapply (wp_recv m K c 7 _ rfl rfl) $$ [Hd Hf]
  · isplitr; · iexact HR
    isplitl [Hd] <;> iassumption
  iintro H
  rw [wp_ret]; imodintro
  iapply Hk
  isplitl [Hl] <;> iassumption

theorem part21 (c : Dev nD) (v2 v221 v583) (hv : k0_pay25 v221 v583 (t2q3 m c) (w2 m c) = outQ m c 3) (Q : PUnit → sProp 𝕄) :
    iprop(records m K ∗ got m c 7 ∗ weights m c ∗ blank c 3 ∗ dest c 3 ∗ ((got m c 7 ∗ weights m c ∗ leaving c 3) -∗ Q ⟨⟩))
      ⊢ Runs c (k0_part21 xM (hW _) wM (hW _) aM (hW _) bM (hW _) yM (hW _) tM (hW _) oM (hW _) cc0_scratch2 cc0_scratch3 cc0_scratch4 c v2 v221 v583) Q := by
  rw [k0_part21_eq_skeleton]; unfold k0_part21_skel Runs; unfold t2q3 w2 at hv
  simp only [Prog.lift, Prog.bind_op, Prog.bind_ret, Prog.pure_eq_ret]
  iintro ⟨#HR, Hg, Hw, Ho, Hq, Hk⟩
  iapply (wp_load_got m c 7 256 rfl (off23_at c)) $$ Hg; iintro Hg
  iapply (wp_load_w m c) $$ Hw; iintro Hw
  iapply (wp_load_o c 3 rfl) $$ Ho; iintro %v Ho
  iapply (wp_store_o m c 3 rfl hv) $$ Ho; iintro Ho
  iapply (wp_leave m K c 3 rfl _ rfl) $$ [Ho Hq]
  · isplitr; · iexact HR
    isplitl [Ho] <;> iassumption
  iintro Hl
  rw [wp_ret]; imodintro
  iapply Hk
  isplitl [Hg]; · iexact Hg
  isplitl [Hw] <;> iassumption

/-- A quarter on its way with its position; a chunk sent with its. -/
def outW (c : Dev nD) (q : Fin 4) : sProp 𝕄 := iprop(leaving c q ∗ atPos ER (outCell c q) 0 ∅ 0)
def sentW (c : Dev nD) (i : Fin 8) : sProp 𝕄 := iprop(away c i ∗ atPos ER (sendCell c i) 0 ∅ 0)

theorem part22 (c : Dev nD) (Q : PUnit → sProp 𝕄) :
    iprop(records m K ∗ outW c 0 ∗ outW c 1 ∗ outW c 2 ∗ outW c 3 ∗ sentW c 0 ∗ sentW c 1 ∗ free c
        ∗ ((home m c 0 ∗ home m c 1 ∗ home m c 2 ∗ home m c 3 ∗ back m c 0 ∗ back m c 1 ∗ free c) -∗ Q ⟨⟩))
      ⊢ Runs c (k0_part22 xM (hW _) wM (hW _) aM (hW _) bM (hW _) yM (hW _) tM (hW _) oM (hW _) cc0_scratch2 cc0_scratch3 cc0_scratch4 c) Q := by
  rw [k0_part22_eq_skeleton]; unfold k0_part22_skel Runs outW sentW
  simp only [Prog.lift, Prog.bind_op, Prog.bind_ret, Prog.pure_eq_ret]
  iintro ⟨#HR, ⟨L0, A0⟩, ⟨L1, A1⟩, ⟨L2, A2⟩, ⟨L3, A3⟩, ⟨S0, B0⟩, ⟨S1, B1⟩, Hf, Hk⟩
  iapply (wp_home m K c 0 _ rfl rfl) $$ [L0 A0 Hf]
  · isplitr; · iexact HR
    isplitl [L0]; · iexact L0
    isplitl [A0] <;> iassumption
  iintro ⟨H0, Hf⟩
  iapply (wp_home m K c 1 _ rfl rfl) $$ [L1 A1 Hf]
  · isplitr; · iexact HR
    isplitl [L1]; · iexact L1
    isplitl [A1] <;> iassumption
  iintro ⟨H1, Hf⟩
  iapply (wp_home m K c 2 _ rfl rfl) $$ [L2 A2 Hf]
  · isplitr; · iexact HR
    isplitl [L2]; · iexact L2
    isplitl [A2] <;> iassumption
  iintro ⟨H2, Hf⟩
  iapply (wp_home m K c 3 _ rfl rfl) $$ [L3 A3 Hf]
  · isplitr; · iexact HR
    isplitl [L3]; · iexact L3
    isplitl [A3] <;> iassumption
  iintro ⟨H3, Hf⟩
  iapply (wp_sent m K c 0 _ rfl rfl) $$ [S0 B0 Hf]
  · isplitr; · iexact HR
    isplitl [S0]; · iexact S0
    isplitl [B0] <;> iassumption
  iintro ⟨G0, Hf⟩
  iapply (wp_sent m K c 1 _ rfl rfl) $$ [S1 B1 Hf]
  · isplitr; · iexact HR
    isplitl [S1]; · iexact S1
    isplitl [B1] <;> iassumption
  iintro ⟨G1, Hf⟩
  rw [wp_ret]; imodintro
  iapply Hk
  isplitl [H0]; · iexact H0
  isplitl [H1]; · iexact H1
  isplitl [H2]; · iexact H2
  isplitl [H3]; · iexact H3
  isplitl [G0]; · iexact G0
  isplitl [G1] <;> iassumption

theorem part23 (c : Dev nD) (Q : PUnit → sProp 𝕄) :
    iprop(records m K ∗ sentW c 2 ∗ sentW c 3 ∗ sentW c 4 ∗ sentW c 5 ∗ free c
        ∗ ((back m c 2 ∗ back m c 3 ∗ back m c 4 ∗ back m c 5 ∗ free c) -∗ Q ⟨⟩))
      ⊢ Runs c (k0_part23 xM (hW _) wM (hW _) aM (hW _) bM (hW _) yM (hW _) tM (hW _) oM (hW _) cc0_scratch2 cc0_scratch3 cc0_scratch4 c) Q := by
  rw [k0_part23_eq_skeleton]; unfold k0_part23_skel Runs sentW
  simp only [Prog.lift, Prog.bind_op, Prog.bind_ret, Prog.pure_eq_ret]
  iintro ⟨#HR, ⟨S0, B0⟩, ⟨S1, B1⟩, ⟨S2, B2⟩, ⟨S3, B3⟩, Hf, Hk⟩
  iapply (wp_sent m K c 2 _ rfl rfl) $$ [S0 B0 Hf]
  · isplitr; · iexact HR
    isplitl [S0]; · iexact S0
    isplitl [B0] <;> iassumption
  iintro ⟨G0, Hf⟩
  iapply (wp_sent m K c 3 _ rfl rfl) $$ [S1 B1 Hf]
  · isplitr; · iexact HR
    isplitl [S1]; · iexact S1
    isplitl [B1] <;> iassumption
  iintro ⟨G1, Hf⟩
  iapply (wp_sent m K c 4 _ rfl rfl) $$ [S2 B2 Hf]
  · isplitr; · iexact HR
    isplitl [S2]; · iexact S2
    isplitl [B2] <;> iassumption
  iintro ⟨G2, Hf⟩
  iapply (wp_sent m K c 5 _ rfl rfl) $$ [S3 B3 Hf]
  · isplitr; · iexact HR
    isplitl [S3]; · iexact S3
    isplitl [B3] <;> iassumption
  iintro ⟨G3, Hf⟩
  rw [wp_ret]; imodintro
  iapply Hk
  isplitl [G0]; · iexact G0
  isplitl [G1]; · iexact G1
  isplitl [G2]; · iexact G2
  isplitl [G3] <;> iassumption

end Cert.ScatterProof

end
-- ==== Proof.Pieces.lean ====
/-
# The buffers in pieces

Each whole buffer as the pieces the body works on, and back.
-/
module

public import proofs.«01_k».proof.Proof.Receiving

@[expose] public section

noncomputable section

namespace Cert.ScatterProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

section Split

variable {ℓ : Loc nD τ sig} (φ : Idx ℓ → ℕ)

/-- A block of 1024 rows is two halves, -/
theorem rows_halves (b : ℕ) (f : Buf (Elt F) ℓ) :
    (ℓ ↦[rng φ (1024 * b) (1024 * b + 1024)]{fullShare} f : sProp 𝕄)
      = iprop((ℓ ↦[rng φ (1024 * b + 0) (1024 * b + 0 + 512)]{fullShare} f) ∗ (ℓ ↦[rng φ (1024 * b + 512) (1024 * b + 512 + 512)]{fullShare} f)) :=
  rows_split φ (lo := 1024 * b) (mid := 1024 * b + 512) (hi := 1024 * b + 1024) (by omega) (by omega) f

/-- or four quarters. -/
theorem rows_quarters (b : ℕ) (f : Buf (Elt F) ℓ) :
    (ℓ ↦[rng φ (1024 * b) (1024 * b + 1024)]{fullShare} f : sProp 𝕄)
      = iprop((ℓ ↦[rng φ (1024 * b + 0) (1024 * b + 0 + 256)]{fullShare} f) ∗ (ℓ ↦[rng φ (1024 * b + 256) (1024 * b + 256 + 256)]{fullShare} f)
        ∗ (ℓ ↦[rng φ (1024 * b + 512) (1024 * b + 512 + 256)]{fullShare} f) ∗ (ℓ ↦[rng φ (1024 * b + 768) (1024 * b + 768 + 256)]{fullShare} f)) := by
  rw [rows_split φ (lo := 1024 * b) (mid := 1024 * b + 256) (hi := 1024 * b + 1024) (by omega) (by omega) f,
    rows_split φ (lo := 1024 * b + 256) (mid := 1024 * b + 512) (hi := 1024 * b + 1024) (by omega) (by omega) f,
    rows_split φ (lo := 1024 * b + 512) (mid := 1024 * b + 768) (hi := 1024 * b + 1024) (by omega) (by omega) f]
  rfl

end Split

theorem mesh_zero (c : Dev nD) : meshE c 0 = c := by revert c; decide

/-! ## The staged shard -/

/-- The staged shard: the rows the device keeps, and the eight chunks. -/
theorem x_pieces (c : Dev nD) : ((xloc c ↦{fullShare} (xstg m c : Buf (Elt F) (xloc c))) : sProp 𝕄)
    = iprop(own m c ∗ (sendPay m c 0 ∗ sendPay m c 1) ∗ (sendPay m c 4 ∗ sendPay m c 5 ∗ sendPay m c 6 ∗ sendPay m c 7)
      ∗ (sendPay m c 2 ∗ sendPay m c 3)) := by
  rw [rows_four φx 1024 φx_lt, bigSep_univ_equiv (meshE c), bigSep_fin4, mesh_zero]
  have h1 := rows_halves (F := F) (ℓ := xloc c) φx (ahead 1 c).val (xstg m c)
  have h2 := rows_quarters (F := F) (ℓ := xloc c) φx (ahead 2 c).val (xstg m c)
  have h3 := rows_halves (F := F) (ℓ := xloc c) φx (ahead 3 c).val (xstg m c)
  exact congrArg (fun P => iprop(own m c ∗ P)) (congr (congrArg (fun P Q => iprop(P ∗ Q)) h1) (congr (congrArg (fun P Q => iprop(P ∗ Q)) h2) h3))

/-! ## The landing buffer -/

/-- The place on the receiver of chunk `i`. -/
def place (c : Dev nD) (i : Fin 8) : sProp 𝕄 := iprop(∃ f, tPts (F := F) (tgt c i) (tLo c i) (tLo c i + rows i) f)

/-- The four slots, in the order of the devices, and in the order of the distances. -/
theorem t_slots (c : Dev nD) (f : Buf (Elt F) (tloc c)) : ((tloc c ↦{fullShare} f) : sProp 𝕄)
    = iprop(tPts c (1024 * (ahead (0 : Fin 4).val c).val) (1024 * (ahead (0 : Fin 4).val c).val + 1024) f
      ∗ tPts c (1024 * (ahead (1 : Fin 4).val c).val) (1024 * (ahead (1 : Fin 4).val c).val + 1024) f
      ∗ tPts c (1024 * (ahead (2 : Fin 4).val c).val) (1024 * (ahead (2 : Fin 4).val c).val + 1024) f
      ∗ tPts c (1024 * (ahead (3 : Fin 4).val c).val) (1024 * (ahead (3 : Fin 4).val c).val + 1024) f) :=
  (rows_four φt 1024 φt_lt f).trans ((bigSep_univ_equiv (meshE c) (fun b : Fin 4 => tPts (F := F) c (1024 * b.val) (1024 * b.val + 1024) f)).trans
    (bigSep_fin4 fun d => tPts (F := F) c (1024 * (ahead d.val c).val) (1024 * (ahead d.val c).val + 1024) f))

theorem slots_split (c : Dev nD) : iprop(∃ f, tloc c ↦{fullShare} f) ⊢ (iprop(slot c 0 ∗ slot c 1 ∗ slot c 2 ∗ slot c 3) : sProp 𝕄) := by
  iintro ⟨%f, H⟩
  ihave H := (Entails.of_eq (t_slots c f)) $$ H
  icases H with ⟨H0, H1, H2, H3⟩
  unfold slot
  isplitl [H0]; · iexists f; iexact H0
  isplitl [H1]; · iexists f; iexact H1
  isplitl [H2]; · iexists f; iexact H2
  iexists f; iexact H3

/-- Slot `b` of the landing buffer at some contents. -/
def slotAt (c : Dev nD) (b : Fin 4) : sProp 𝕄 := iprop(∃ f : Buf (Elt F) (tloc c), tloc c ↦[rng φt (1024 * b.val) (1024 * b.val + 1024)]{fullShare} f)

theorem slots_join (c : Dev nD) : (iprop(slot c 0 ∗ slot c 1 ∗ slot c 2 ∗ slot c 3) : sProp 𝕄) ⊢ iprop(∃ f, tloc c ↦{fullShare} f) := by
  have h : (iprop(slot c 0 ∗ slot c 1 ∗ slot c 2 ∗ slot c 3) : sProp 𝕄)
      = iprop((∃ f : Buf (Elt F) (tloc c), tloc c ↦[rng φt 0 1024]{fullShare} f) ∗ (∃ f : Buf (Elt F) (tloc c), tloc c ↦[rng φt 1024 2048]{fullShare} f)
        ∗ (∃ f : Buf (Elt F) (tloc c), tloc c ↦[rng φt 2048 3072]{fullShare} f) ∗ ∃ f : Buf (Elt F) (tloc c), tloc c ↦[rng φt 3072 4096]{fullShare} f) :=
    ((bigSep_univ_equiv (meshE c) (slotAt (F := F) c)).trans (bigSep_fin4 _)).symm.trans (bigSep_fin4 (slotAt (F := F) c))
  rw [h]
  refine BIBase.Entails.trans ?_ (Entails.of_eq (show iprop(∃ f : Buf (Elt F) (tloc c), tloc c ↦[rng φt 0 4096]{fullShare} f) = (iprop(∃ f, tloc c ↦{fullShare} f) : sProp 𝕄) from by
    rw [rng_univ φt φt_lt]))
  iintro ⟨H0, H1, H2, H3⟩
  iapply (rows_join (ℓ := tloc c) φt (lo := 0) (mid := 3072) (hi := 4096) (by omega) (by omega))
  isplitr [H3]
  · iapply (rows_join (ℓ := tloc c) φt (lo := 0) (mid := 2048) (hi := 3072) (by omega) (by omega))
    isplitr [H2]
    · iapply (rows_join (ℓ := tloc c) φt (lo := 0) (mid := 1024) (hi := 2048) (by omega) (by omega))
      isplitl [H0]; · iexact H0
      iexact H1
    iexact H2
  iexact H3

/-- Half a slot is the place of a half chunk: the slot lent by the device `d` places ahead, in two halves, -/
theorem t_halves (e : Dev nD) (b : ℕ) (f : Buf (Elt F) (tloc e)) : (tPts e (1024 * b) (1024 * b + 1024) f : sProp 𝕄)
    = iprop(tPts e (1024 * b + 0) (1024 * b + 0 + 512) f ∗ tPts e (1024 * b + 512) (1024 * b + 512 + 512) f) := rows_halves (F := F) (ℓ := tloc e) φt b f
/-- in four quarters. -/
theorem t_quarters (e : Dev nD) (b : ℕ) (f : Buf (Elt F) (tloc e)) : (tPts e (1024 * b) (1024 * b + 1024) f : sProp 𝕄)
    = iprop(tPts e (1024 * b + 0) (1024 * b + 0 + 256) f ∗ tPts e (1024 * b + 256) (1024 * b + 256 + 256) f
      ∗ tPts e (1024 * b + 512) (1024 * b + 512 + 256) f ∗ tPts e (1024 * b + 768) (1024 * b + 768 + 256) f) := rows_quarters (F := F) (ℓ := tloc e) φt b f

/-- The same at some contents. -/
theorem some_halves (e : Dev nD) (b : ℕ) : (iprop(∃ f, tPts (F := F) e (1024 * b) (1024 * b + 1024) f) : sProp 𝕄)
    ⊢ iprop((∃ f, tPts (F := F) e (1024 * b + 0) (1024 * b + 0 + 512) f) ∗ ∃ f, tPts (F := F) e (1024 * b + 512) (1024 * b + 512 + 512) f) := by
  iintro ⟨%f, H⟩
  ihave H := (Entails.of_eq (t_halves e b f)) $$ H
  icases H with ⟨H0, H1⟩
  isplitl [H0]
  · iexists f; iexact H0
  · iexists f; iexact H1
theorem some_quarters (e : Dev nD) (b : ℕ) : (iprop(∃ f, tPts (F := F) e (1024 * b) (1024 * b + 1024) f) : sProp 𝕄)
    ⊢ iprop((∃ f, tPts (F := F) e (1024 * b + 0) (1024 * b + 0 + 256) f) ∗ (∃ f, tPts (F := F) e (1024 * b + 256) (1024 * b + 256 + 256) f)
      ∗ (∃ f, tPts (F := F) e (1024 * b + 512) (1024 * b + 512 + 256) f) ∗ ∃ f, tPts (F := F) e (1024 * b + 768) (1024 * b + 768 + 256) f) := by
  iintro ⟨%f, H⟩
  ihave H := (Entails.of_eq (t_quarters e b f)) $$ H
  icases H with ⟨H0, H1, H2, H3⟩
  isplitl [H0]; · iexists f; iexact H0
  isplitl [H1]; · iexists f; iexact H1
  isplitl [H2]; · iexists f; iexact H2
  iexists f; iexact H3

/-- A lent slot is the places of the chunks that go there. -/
theorem lent_next (c : Dev nD) : (barPay c 3 : sProp 𝕄) ⊢ iprop(place c 0 ∗ place c 1) := some_halves (ahead 1 c) c.val
theorem lent_prev (c : Dev nD) : (barPay c 1 : sProp 𝕄) ⊢ iprop(place c 2 ∗ place c 3) := some_halves (ahead 3 c) c.val
theorem lent_far (c : Dev nD) : (barPay c 2 : sProp 𝕄) ⊢ iprop(place c 4 ∗ place c 5 ∗ place c 6 ∗ place c 7) := some_quarters (ahead 2 c) c.val

theorem slot_of (c : Dev nD) (d : Fin 4) (f : Buf (Elt F) (tloc c)) :
    (tPts c (1024 * (ahead d.val c).val) (1024 * (ahead d.val c).val + 1024) f : sProp 𝕄) ⊢ slot c d := by
  unfold slot; iintro H; iexists f; iexact H

/-- The chunks landed fill the device's own slots. -/
theorem landed_prev (c : Dev nD) : (iprop(recvPay m c 0 ∗ recvPay m c 1) : sProp 𝕄) ⊢ slot c 3 :=
  (Entails.of_eq (t_halves c (ahead 3 c).val (landed m c)).symm).trans (slot_of c 3 (landed m c))
theorem landed_next (c : Dev nD) : (iprop(recvPay m c 2 ∗ recvPay m c 3) : sProp 𝕄) ⊢ slot c 1 :=
  (Entails.of_eq (t_halves c (ahead 1 c).val (landed m c)).symm).trans (slot_of c 1 (landed m c))
theorem landed_far (c : Dev nD) : (iprop(recvPay m c 4 ∗ recvPay m c 5 ∗ recvPay m c 6 ∗ recvPay m c 7) : sProp 𝕄) ⊢ slot c 2 :=
  (Entails.of_eq (t_quarters c (ahead 2 c).val (landed m c)).symm).trans (slot_of c 2 (landed m c))

/-! ## The result -/

theorem blanks (c : Dev nD) : iprop(∃ f, oloc c ↦{fullShare} f) ⊢ (iprop(blank c 0 ∗ blank c 1 ∗ blank c 2 ∗ blank c 3) : sProp 𝕄) := by
  iintro ⟨%f, H⟩
  ihave H := (Entails.of_eq ((rows_four φo 256 φo_lt f).trans (bigSep_fin4 _))) $$ H
  icases H with ⟨H0, H1, H2, H3⟩
  unfold blank oPts
  isplitl [H0]; · iexists f; iexact H0
  isplitl [H1]; · iexists f; iexact H1
  isplitl [H2]; · iexists f; iexact H2
  iexists f; iexact H3

/-- A quarter's place in the result array. -/
def spot (c : Dev nD) (q : Fin 4) : sProp 𝕄 := iprop(∃ f, yPts (F := F) c (256 * q.val) (256 * q.val + 256) f)

theorem spots (c : Dev nD) (f : Buf (Elt F) (yloc c)) : (yloc c ↦{fullShare} f) ⊢ (iprop(spot c 0 ∗ spot c 1 ∗ spot c 2 ∗ spot c 3) : sProp 𝕄) := by
  iintro H
  ihave H := (Entails.of_eq ((rows_four φo 256 φo_lt f).trans (bigSep_fin4 _))) $$ H
  icases H with ⟨H0, H1, H2, H3⟩
  unfold spot yPts
  isplitl [H0]; · iexists f; iexact H0
  isplitl [H1]; · iexists f; iexact H1
  isplitl [H2]; · iexists f; iexact H2
  iexists f; iexact H3

/-- The four quarters written are the result, in the array and in the buffer. -/
theorem result_join (c : Dev nD) : (iprop(outPay m c 0 ∗ outPay m c 1 ∗ outPay m c 2 ∗ outPay m c 3) : sProp 𝕄)
    ⊢ iprop((yloc c ↦{fullShare} (outAt m c : Buf (Elt F) (yloc c))) ∗ ∃ f, oloc c ↦{fullShare} f) := by
  unfold outPay yPts oPts
  iintro ⟨⟨Y0, O0⟩, ⟨Y1, O1⟩, ⟨Y2, O2⟩, ⟨Y3, O3⟩⟩
  isplitl [Y0 Y1 Y2 Y3]
  · iapply (Entails.of_eq ((rows_four (ℓ := yloc c) φo 256 φo_lt (outAt m c)).trans (bigSep_fin4 _)).symm)
    isplitl [Y0]; · iexact Y0
    isplitl [Y1]; · iexact Y1
    isplitl [Y2]; · iexact Y2
    iexact Y3
  · iexists (outAt m c)
    iapply (Entails.of_eq ((rows_four (ℓ := oloc c) φo 256 φo_lt (outAt m c)).trans (bigSep_fin4 _)).symm)
    isplitl [O0]; · iexact O0
    isplitl [O1]; · iexact O1
    isplitl [O2]; · iexact O2
    iexact O3

end Cert.ScatterProof

end
-- ==== Proof.Body.lean ====
/-
# The body

The printed pieces one after another, from what the launch hands a device to what it hands back.
-/
module

public import proofs.«01_k».proof.Proof.Pieces

@[expose] public section

noncomputable section

namespace Cert.ScatterProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ)

/-! ## Before and after -/

/-- What the body starts from, the records apart. -/
def bodyIn (c : Dev nD) (W : Waits sig Unit) : sProp 𝕄 :=
  iprop(places c ∗ payToks c ∗ credits c ∗ (yloc c ↦{fullShare} m (yloc c)) ∗ (∃ f, tloc c ↦{fullShare} f) ∗ (∃ f, oloc c ↦{fullShare} f)
    ∗ owes (c : Thread nD τ) (owed0 c) W ∗ (xloc c ↦{fullShare} (xstg m c : Buf (Elt F) (xloc c))) ∗ weights m c ∗ scales m c)

/-- The semaphores it used, all at zero. -/
def zeros (c : Dev nD) : sProp 𝕄 :=
  iprop(semVal (barCell c) 0 ∗ (bigSep Finset.univ fun i : Fin 8 => semVal (sendCell c i) 0)
    ∗ (bigSep Finset.univ fun i : Fin 8 => semVal (recvCell c i) 0) ∗ bigSep Finset.univ fun q : Fin 4 => semVal (outCell c q) 0)

/-- What it ends with. -/
def bodyOut (c : Dev nD) : sProp 𝕄 :=
  iprop((yloc c ↦{fullShare} (outAt m c : Buf (Elt F) (yloc c))) ∗ zeros c ∗ (∃ f, tloc c ↦{fullShare} f) ∗ (∃ f, oloc c ↦{fullShare} f)
    ∗ free c ∗ (xloc c ↦{fullShare} (xstg m c : Buf (Elt F) (xloc c))) ∗ weights m c ∗ scales m c)

/-- The end state put together from the pieces. -/
theorem body_close (c : Dev nD) :
    iprop(semVal (barCell c) 0 ∗ slot c 0 ∗ own m c ∗ weights m c ∗ scales m c ∗ free c
      ∗ (got m c 0 ∗ got m c 1 ∗ got m c 2 ∗ got m c 3 ∗ got m c 4 ∗ got m c 5 ∗ got m c 6 ∗ got m c 7)
      ∗ (home m c 0 ∗ home m c 1 ∗ home m c 2 ∗ home m c 3)
      ∗ (back m c 0 ∗ back m c 1 ∗ back m c 2 ∗ back m c 3 ∗ back m c 4 ∗ back m c 5 ∗ back m c 6 ∗ back m c 7))
      ⊢ bodyOut m c := by
  unfold got home back
  iintro ⟨Hz, Hs0, Hx, Hw, Hsc, Hf, ⟨⟨R0, r0⟩, ⟨R1, r1⟩, ⟨R2, r2⟩, ⟨R3, r3⟩, ⟨R4, r4⟩, ⟨R5, r5⟩, ⟨R6, r6⟩, ⟨R7, r7⟩⟩,
    ⟨⟨Y0, y0⟩, ⟨Y1, y1⟩, ⟨Y2, y2⟩, ⟨Y3, y3⟩⟩, ⟨⟨S0, s0⟩, ⟨S1, s1⟩, ⟨S2, s2⟩, ⟨S3, s3⟩, ⟨S4, s4⟩, ⟨S5, s5⟩, ⟨S6, s6⟩, ⟨S7, s7⟩⟩⟩
  ihave HY := (result_join m c) $$ [Y0 Y1 Y2 Y3]
  · isplitl [Y0]; · iexact Y0
    isplitl [Y1]; · iexact Y1
    isplitl [Y2] <;> iassumption
  icases HY with ⟨HY, HO⟩
  ihave T3 := (landed_prev m c) $$ [R0 R1]
  · isplitl [R0] <;> iassumption
  ihave T1 := (landed_next m c) $$ [R2 R3]
  · isplitl [R2] <;> iassumption
  ihave T2 := (landed_far m c) $$ [R4 R5 R6 R7]
  · isplitl [R4]; · iexact R4
    isplitl [R5]; · iexact R5
    isplitl [R6] <;> iassumption
  ihave HT := (slots_join c) $$ [Hs0 T1 T2 T3]
  · isplitl [Hs0]; · iexact Hs0
    isplitl [T1]; · iexact T1
    isplitl [T2] <;> iassumption
  ihave HX := (Entails.of_eq (x_pieces m c).symm) $$ [Hx S0 S1 S2 S3 S4 S5 S6 S7]
  · isplitl [Hx]; · iexact Hx
    isplitl [S0 S1]; · isplitl [S0] <;> iassumption
    isplitl [S4 S5 S6 S7]
    · isplitl [S4]; · iexact S4
      isplitl [S5]; · iexact S5
      isplitl [S6] <;> iassumption
    isplitl [S2] <;> iassumption
  unfold bodyOut zeros
  rw [bigSep_fin8, bigSep_fin8, bigSep_fin4]
  isplitl [HY]; · iexact HY
  isplitl [Hz r0 r1 r2 r3 r4 r5 r6 r7 y0 y1 y2 y3 s0 s1 s2 s3 s4 s5 s6 s7]
  · isplitl [Hz]; · iexact Hz
    isplitl [s0 s1 s2 s3 s4 s5 s6 s7]
    · isplitl [s0]; · iexact s0
      isplitl [s1]; · iexact s1
      isplitl [s2]; · iexact s2
      isplitl [s3]; · iexact s3
      isplitl [s4]; · iexact s4
      isplitl [s5]; · iexact s5
      isplitl [s6] <;> iassumption
    isplitl [r0 r1 r2 r3 r4 r5 r6 r7]
    · isplitl [r0]; · iexact r0
      isplitl [r1]; · iexact r1
      isplitl [r2]; · iexact r2
      isplitl [r3]; · iexact r3
      isplitl [r4]; · iexact r4
      isplitl [r5]; · iexact r5
      isplitl [r6] <;> iassumption
    isplitl [y0]; · iexact y0
    isplitl [y1]; · iexact y1
    isplitl [y2] <;> iassumption
  isplitl [HT]; · iexact HT
  isplitl [HO]; · iexact HO
  isplitl [Hf]; · iexact Hf
  isplitl [HX]; · iexact HX
  isplitl [Hw] <;> iassumption

/-! ## The states named -/

theorem ready_of (c : Dev nD) (i : Fin 8) : iprop(sendPay m c i ∗ place c i ∗ dutyTok ER (sendCell c i) 0 0 ∗ dutyTok ER (recvCell (tgt c i) i) 0 0)
    ⊢ (ready m c i : sProp 𝕄) := by unfold ready place; exact BIBase.Entails.refl
theorem due_of (c : Dev nD) (i : Fin 8) : iprop(cred (tallyAt (recvCell c i) () (amt i)) ∗ atPos ER (recvCell c i) 0 ∅ 0) ⊢ (due c i : sProp 𝕄) := by
  unfold due; exact BIBase.Entails.refl
theorem dest_of (c : Dev nD) (q : Fin 4) : iprop(spot c q ∗ dutyTok ER (outCell c q) 0 0) ⊢ (dest c q : sProp 𝕄) := by
  unfold dest spot; exact BIBase.Entails.refl
theorem outW_of (c : Dev nD) (q : Fin 4) : iprop(leaving c q ∗ atPos ER (outCell c q) 0 ∅ 0) ⊢ (outW c q : sProp 𝕄) := by
  unfold outW; exact BIBase.Entails.refl
theorem sentW_of (c : Dev nD) (i : Fin 8) : iprop(away c i ∗ atPos ER (sendCell c i) 0 ∅ 0) ⊢ (sentW c i : sProp 𝕄) := by
  unfold sentW; exact BIBase.Entails.refl

set_option maxHeartbeats 1600000 in
/-- The body run. -/
theorem body_run (c : Dev nD) (W : Waits sig Unit) (Q : PUnit → sProp 𝕄) :
    iprop(records m K ∗ levAts L lv ∗ bodyIn m c W ∗ (bodyOut m c -∗ Q ⟨⟩))
      ⊢ Runs c (cc0_body xM (hW _) wM (hW _) aM (hW _) bM (hW _) yM (hW _) tM (hW _) oM (hW _) cc0_scratch2 cc0_scratch3 cc0_scratch4) Q := by
  rw [cc0_body_eq_skeleton]; unfold cc0_body_skel Runs bodyIn places payToks credits
  rw [bigSep_fin8, bigSep_fin8, bigSep_fin4, bigSep_fin8, bigSep_fin8, bigSep_fin4, bigSep_fin8]
  iintro ⟨#HR, #Hlev, ⟨⟨HaB, ⟨A0, A1, A2, A3, A4, A5, A6, A7⟩, ⟨B0, B1, B2, B3, B4, B5, B6, B7⟩, ⟨C0, C1, C2, C3⟩⟩,
    ⟨⟨t1, t2, t3⟩, ⟨s0, s1, s2, s3, s4, s5, s6, s7⟩, ⟨r0, r1, r2, r3, r4, r5, r6, r7⟩, ⟨o0, o1, o2, o3⟩⟩,
    ⟨HcB, ⟨D0, D1, D2, D3, D4, D5, D6, D7⟩⟩, Hy, Ht, Ho, HO, Hx, Hw, Hsc⟩, Hk⟩
  ihave HX := (Entails.of_eq (x_pieces m c)) $$ Hx
  icases HX with ⟨Hx, ⟨X0, X1⟩, ⟨X4, X5, X6, X7⟩, ⟨X2, X3⟩⟩
  ihave HT := (slots_split c) $$ Ht
  icases HT with ⟨T0, T1, T2, T3⟩
  ihave HB := (blanks c) $$ Ho
  icases HB with ⟨O0, O1, O2, O3⟩
  ihave HY := (spots c _) $$ Hy
  icases HY with ⟨Y0, Y1, Y2, Y3⟩
  rw [wp_bind]
  iapply (part1 m K c W _)
  isplitr; · iexact HR
  isplitl [T1]; · iexact T1
  isplitl [T2]; · iexact T2
  isplitl [t1]; · iexact t1
  isplitl [t2]; · iexact t2
  isplitl [HO]; · iexact HO
  iintro %a %b %d %e HO
  dsimp only
  rw [wp_bind]
  iapply (part2 m K c W _ _ _ _ _)
  isplitr; · iexact HR
  isplitr; · iexact Hlev
  isplitl [T3]; · iexact T3
  isplitl [t3]; · iexact t3
  isplitl [HcB]; · iexact HcB
  isplitl [HaB]; · iexact HaB
  isplitl [HO]; · iexact HO
  iintro ⟨HO, Hz, P1, P2, P3⟩
  ihave P := (lent_next c) $$ P3
  icases P with ⟨p0, p1⟩
  ihave P := (lent_prev c) $$ P1
  icases P with ⟨p2, p3⟩
  ihave P := (lent_far c) $$ P2
  icases P with ⟨p4, p5, p6, p7⟩
  ihave R0 := (ready_of m c 0) $$ [X0 p0 s0 r0]
  · isplitl [X0]; · iexact X0
    isplitl [p0]; · iexact p0
    isplitl [s0] <;> iassumption
  ihave R1 := (ready_of m c 1) $$ [X1 p1 s1 r1]
  · isplitl [X1]; · iexact X1
    isplitl [p1]; · iexact p1
    isplitl [s1] <;> iassumption
  ihave R2 := (ready_of m c 2) $$ [X2 p2 s2 r2]
  · isplitl [X2]; · iexact X2
    isplitl [p2]; · iexact p2
    isplitl [s2] <;> iassumption
  ihave R3 := (ready_of m c 3) $$ [X3 p3 s3 r3]
  · isplitl [X3]; · iexact X3
    isplitl [p3]; · iexact p3
    isplitl [s3] <;> iassumption
  ihave R4 := (ready_of m c 4) $$ [X4 p4 s4 r4]
  · isplitl [X4]; · iexact X4
    isplitl [p4]; · iexact p4
    isplitl [s4] <;> iassumption
  ihave R5 := (ready_of m c 5) $$ [X5 p5 s5 r5]
  · isplitl [X5]; · iexact X5
    isplitl [p5]; · iexact p5
    isplitl [s5] <;> iassumption
  ihave R6 := (ready_of m c 6) $$ [X6 p6 s6 r6]
  · isplitl [X6]; · iexact X6
    isplitl [p6]; · iexact p6
    isplitl [s6] <;> iassumption
  ihave R7 := (ready_of m c 7) $$ [X7 p7 s7 r7]
  · isplitl [X7]; · iexact X7
    isplitl [p7]; · iexact p7
    isplitl [s7] <;> iassumption
  rw [wp_bind]
  iapply (part3 m K c _ _)
  isplitr; · iexact HR
  isplitl [R0]; · iexact R0
  isplitl [R1]; · iexact R1
  isplitl [HO]; · unfold owing; iexact HO
  iintro %z ⟨a0, a1, HO⟩
  rw [wp_bind]
  iapply (part4 m K c _ _ _ _ _)
  isplitr; · iexact HR
  isplitl [R2]; · iexact R2
  isplitl [HO]; · iexact HO
  iintro ⟨a2, HO⟩
  rw [wp_bind]
  iapply (part5 m K c _ _)
  isplitr; · iexact HR
  isplitl [R3]; · iexact R3
  isplitl [R4]; · iexact R4
  isplitl [HO]; · iexact HO
  iintro %z ⟨a3, a4, HO⟩
  rw [wp_bind]
  iapply (part6 m K c _ _ _ _ _ _ _)
  isplitr; · iexact HR
  isplitl [R5]; · iexact R5
  isplitl [HO]; · iexact HO
  iintro ⟨a5, HO⟩
  rw [wp_bind]
  iapply (part7 m K c _ _)
  isplitr; · iexact HR
  isplitl [R6]; · iexact R6
  isplitl [R7]; · iexact R7
  isplitl [HO]; · iexact HO
  isplitl [Hsc]; · iexact Hsc
  iintro ⟨a6, a7, Hf, Hsc⟩
  rw [wp_bind]
  iapply (part8 m c _ _)
  isplitl [Hx]; · iexact Hx
  isplitl [Hw]; · iexact Hw
  iintro %z1 %z2 %z3 %z4 %z5 ⟨Hx, Hw⟩
  dsimp only
  rw [wp_bind]
  ihave D0 := (due_of c 0) $$ [D0 B0]
  · isplitl [D0] <;> iassumption
  ihave D1 := (due_of c 1) $$ [D1 B1]
  · isplitl [D1] <;> iassumption
  ihave D2 := (due_of c 2) $$ [D2 B2]
  · isplitl [D2] <;> iassumption
  ihave D3 := (due_of c 3) $$ [D3 B3]
  · isplitl [D3] <;> iassumption
  ihave D4 := (due_of c 4) $$ [D4 B4]
  · isplitl [D4] <;> iassumption
  ihave D5 := (due_of c 5) $$ [D5 B5]
  · isplitl [D5] <;> iassumption
  ihave D6 := (due_of c 6) $$ [D6 B6]
  · isplitl [D6] <;> iassumption
  ihave D7 := (due_of c 7) $$ [D7 B7]
  · isplitl [D7] <;> iassumption
  ihave Y0 := (dest_of c 0) $$ [Y0 o0]
  · isplitl [Y0] <;> iassumption
  ihave Y1 := (dest_of c 1) $$ [Y1 o1]
  · isplitl [Y1] <;> iassumption
  ihave Y2 := (dest_of c 2) $$ [Y2 o2]
  · isplitl [Y2] <;> iassumption
  ihave Y3 := (dest_of c 3) $$ [Y3 o3]
  · isplitl [Y3] <;> iassumption
  iapply (part9 m K c _ _ _ _ _ _ _)
  isplitr; · iexact HR
  isplitl [D0]; · iexact D0
  isplitl [Hw]; · iexact Hw
  isplitl [Hf]; · iexact Hf
  iintro ⟨D0, Hw, Hf⟩
  dsimp only
  rw [wp_bind]
  iapply (part10 m K c _ _ _ _ _ _)
  isplitr; · iexact HR
  isplitl [D2]; · iexact D2
  isplitl [Hf]; · iexact Hf
  iintro ⟨D2, Hf⟩
  dsimp only
  rw [wp_bind]
  iapply (part11 m c _ _ _ _)
  isplitl [D2]; · iexact D2
  isplitl [Hw]; · iexact Hw
  iintro %w1 %w2 %w3 ⟨D2, Hw⟩
  dsimp only
  rw [wp_bind]
  iapply (part12 m K c _ _ _ _ _)
  isplitr; · iexact HR
  isplitl [D4]; · iexact D4
  isplitl [Hw]; · iexact Hw
  isplitl [Hf]; · iexact Hf
  iintro ⟨D4, Hw, Hf⟩
  dsimp only
  rw [wp_bind]
  iapply (part13 m K c _ _ _ _ _ rfl _)
  isplitr; · iexact HR
  isplitl [O0]; · iexact O0
  isplitl [Y0]; · iexact Y0
  iintro %y1 L0
  rw [wp_bind]
  iapply (part14 m K c _ _ _ _ _ _)
  isplitr; · iexact HR
  isplitl [D5]; · iexact D5
  isplitl [Hw]; · iexact Hw
  isplitl [Hf]; · iexact Hf
  isplitl [O1]; · iexact O1
  iintro ⟨D5, Hw, Hf, O1⟩
  rw [wp_bind]
  iapply (part15 m K c _ _ rfl _)
  isplitr; · iexact HR
  isplitl [O1]; · iexact O1
  isplitl [Y1]; · iexact Y1
  iintro L1
  rw [wp_bind]
  iapply (part16 m K c _ _ _ _)
  isplitr; · iexact HR
  isplitl [D1]; · iexact D1
  isplitl [Hw]; · iexact Hw
  isplitl [Hf]; · iexact Hf
  iintro %x1 %x2 %x3 ⟨D1, Hw, Hf⟩
  dsimp only
  rw [wp_bind]
  iapply (part17 m K c _ _ _ _ _)
  isplitr; · iexact HR
  isplitl [D3]; · iexact D3
  isplitl [Hf]; · iexact Hf
  iintro %x4 ⟨D3, Hf⟩
  rw [wp_bind]
  iapply (part18 m c _ _ _ _ _)
  isplitl [D3]; · iexact D3
  isplitl [Hw]; · iexact Hw
  iintro %x5 %x6 ⟨D3, Hw⟩
  dsimp only
  rw [wp_bind]
  iapply (part19 m K c _ _ _ _ _ rfl _)
  isplitr; · iexact HR
  isplitl [D6]; · iexact D6
  isplitl [Hw]; · iexact Hw
  isplitl [Hf]; · iexact Hf
  isplitl [O2]; · iexact O2
  iintro ⟨D6, Hw, Hf, O2⟩
  rw [wp_bind]
  iapply (part20 m K c _ _)
  isplitr; · iexact HR
  isplitl [O2]; · iexact O2
  isplitl [Y2]; · iexact Y2
  isplitl [D7]; · iexact D7
  isplitl [Hf]; · iexact Hf
  iintro ⟨L2, D7, Hf⟩
  rw [wp_bind]
  iapply (part21 m K c _ _ _ rfl _)
  isplitr; · iexact HR
  isplitl [D7]; · iexact D7
  isplitl [Hw]; · iexact Hw
  isplitl [O3]; · iexact O3
  isplitl [Y3]; · iexact Y3
  iintro ⟨D7, Hw, L3⟩
  rw [wp_bind]
  ihave L0 := (outW_of c 0) $$ [L0 C0]
  · isplitl [L0] <;> iassumption
  ihave L1 := (outW_of c 1) $$ [L1 C1]
  · isplitl [L1] <;> iassumption
  ihave L2 := (outW_of c 2) $$ [L2 C2]
  · isplitl [L2] <;> iassumption
  ihave L3 := (outW_of c 3) $$ [L3 C3]
  · isplitl [L3] <;> iassumption
  ihave a0 := (sentW_of c 0) $$ [a0 A0]
  · isplitl [a0] <;> iassumption
  ihave a1 := (sentW_of c 1) $$ [a1 A1]
  · isplitl [a1] <;> iassumption
  ihave a2 := (sentW_of c 2) $$ [a2 A2]
  · isplitl [a2] <;> iassumption
  ihave a3 := (sentW_of c 3) $$ [a3 A3]
  · isplitl [a3] <;> iassumption
  ihave a4 := (sentW_of c 4) $$ [a4 A4]
  · isplitl [a4] <;> iassumption
  ihave a5 := (sentW_of c 5) $$ [a5 A5]
  · isplitl [a5] <;> iassumption
  iapply (part22 m K c _)
  isplitr; · iexact HR
  isplitl [L0]; · iexact L0
  isplitl [L1]; · iexact L1
  isplitl [L2]; · iexact L2
  isplitl [L3]; · iexact L3
  isplitl [a0]; · iexact a0
  isplitl [a1]; · iexact a1
  isplitl [Hf]; · iexact Hf
  iintro ⟨L0, L1, L2, L3, a0, a1, Hf⟩
  rw [wp_bind]
  iapply (part23 m K c _)
  isplitr; · iexact HR
  isplitl [a2]; · iexact a2
  isplitl [a3]; · iexact a3
  isplitl [a4]; · iexact a4
  isplitl [a5]; · iexact a5
  isplitl [Hf]; · iexact Hf
  iintro ⟨a2, a3, a4, a5, Hf⟩
  simp only [Prog.lift, Prog.bind_op, Prog.bind_ret, Prog.pure_eq_ret]
  iapply (wp_sent m K c 6 _ rfl rfl) $$ [a6 A6 Hf]
  · isplitr; · iexact HR
    isplitl [a6]; · iexact a6
    isplitl [A6] <;> iassumption
  iintro ⟨a6, Hf⟩
  iapply (wp_sent m K c 7 _ rfl rfl) $$ [a7 A7 Hf]
  · isplitr; · iexact HR
    isplitl [a7]; · iexact a7
    isplitl [A7] <;> iassumption
  iintro ⟨a7, Hf⟩
  rw [wp_ret]; imodintro
  iapply Hk
  iapply (body_close m c)
  isplitl [Hz]; · iexact Hz
  isplitl [T0]; · iexact T0
  isplitl [Hx]; · iexact Hx
  isplitl [Hw]; · iexact Hw
  isplitl [Hsc]; · iexact Hsc
  isplitl [Hf]; · iexact Hf
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6] <;> iassumption
  isplitl [L0 L1 L2 L3]
  · isplitl [L0]; · iexact L0
    isplitl [L1]; · iexact L1
    isplitl [L2] <;> iassumption
  isplitl [a0]; · iexact a0
  isplitl [a1]; · iexact a1
  isplitl [a2]; · iexact a2
  isplitl [a3]; · iexact a3
  isplitl [a4]; · iexact a4
  isplitl [a5]; · iexact a5
  isplitl [a6] <;> iassumption

end Cert.ScatterProof

end
-- ==== Proof.Obligation.lean ====
/-
  The kernel's body as the pipeline asks for it: at its one grid point, from the staged inputs and what the launch gave,
  the body ends with the staged inputs as they were and the result written.
-/
module
public import proofs.«01_k».proof.Proof.Body
@[expose] public section
noncomputable section
namespace Cert.ScatterProof
open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × Ci → ℕ)

/-- A whole staging buffer held at contents `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

omit [FloatOps F] in
theorem held_eq (c : Dev nD) (b : Ref sig .tc) (X : b.ty.Contents (Elt F)) :
    (held c b X : sProp 𝕄) ⊢ (((c : Thread nD τ).loc b) ↦{fullShare} (X : Buf (Elt F) ((c : Thread nD τ).loc b))) := by
  iintro ⟨%f, %hf, H⟩; subst hf; iexact H
omit [FloatOps F] in
theorem held_of (c : Dev nD) (b : Ref sig .tc) (X : b.ty.Contents (Elt F)) :
    ((((c : Thread nD τ).loc b) ↦{fullShare} (X : Buf (Elt F) ((c : Thread nD τ).loc b))) : sProp 𝕄) ⊢ held c b X := by
  iintro H; iexists X; isplitr; · (ipureintro; rfl)
  iexact H

/-! ## Each window's staged block before the body is what was fetched -/

theorem before_x (c : Dev nD) (d) : (dats m 0 c).before (0 : Fin 4) t₀ d = xstg m c := by
  unfold Dat.before; rw [if_pos (fetch0_0 t₀)]; rfl
theorem before_w (c : Dev nD) (d) : (dats m 0 c).before (1 : Fin 4) t₀ d = wstg m c := by
  unfold Dat.before; rw [if_pos (fetch0_1 t₀)]; rfl
theorem before_a (c : Dev nD) (d) : (dats m 0 c).before (2 : Fin 4) t₀ d = astg m c := by
  unfold Dat.before; rw [if_pos (fetch0_2 t₀)]; rfl
theorem before_b (c : Dev nD) (d) : (dats m 0 c).before (3 : Fin 4) t₀ d = bstg m c := by
  unfold Dat.before; rw [if_pos (fetch0_3 t₀)]; rfl

def stagedIn (c : Dev nD) : sProp 𝕄 :=
  iprop(Φ₀ m c ∗ (dats m 0 c).owesAt () t₀.castSucc
    ∗ (∃ d, held c cc0_stg0_0 ((dats m 0 c).before (0 : Fin 4) t₀ d)) ∗ (∃ d, held c cc0_stg1_0 ((dats m 0 c).before (1 : Fin 4) t₀ d))
    ∗ (∃ d, held c cc0_stg2_0 ((dats m 0 c).before (2 : Fin 4) t₀ d)) ∗ (∃ d, held c cc0_stg3_0 ((dats m 0 c).before (3 : Fin 4) t₀ d)))

def stagedOut (c : Dev nD) : sProp 𝕄 :=
  iprop(Φ₁ m c ∗ (dats m 0 c).owesAt () t₀.succ
    ∗ held c cc0_stg0_0 (xstg m c) ∗ held c cc0_stg1_0 (wstg m c) ∗ held c cc0_stg2_0 (astg m c) ∗ held c cc0_stg3_0 (bstg m c))

/-- What the body ends with, put as the pipeline takes it back. -/
theorem staged_close (c : Dev nD) : iprop(idleSems c ∗ bodyOut m c) ⊢ stagedOut m c := by
  unfold bodyOut zeros free weights scales stagedOut Φ₁ Dat.owesAt Pipeline.owesWithin
  rw [show (dats m 0 c).owed t₀.succ = 0 from rfl]
  iintro ⟨Hi, Hy, ⟨Hb, Hs, Hr, Ho⟩, Ht, Hov, ⟨%W, HW⟩, Hx, Hw, Ha, Hbb⟩
  isplitl [Hi Hy Hb Hs Hr Ho Ht Hov]
  · isplitl [Hy]; · iexact Hy
    isplitr [Ht Hov]
    · isplitl [Hb]; · iexact Hb
      isplitl [Hs]; · iexact Hs
      isplitl [Hr]; · iexact Hr
      isplitl [Ho] <;> iassumption
    isplitl [Ht] <;> iassumption
  isplitl [HW]
  · iexists W; isplitr; · ipureintro; exact fun _ _ => Or.inl trivial
    iexact HW
  isplitl [Hx]; · iapply (held_of c cc0_stg0_0 (xstg m c)); iexact Hx
  isplitl [Hw]; · iapply (held_of c cc0_stg1_0 (wstg m c)); iexact Hw
  isplitl [Ha]; · iapply (held_of c cc0_stg2_0 (astg m c)); iexact Ha
  iapply (held_of c cc0_stg3_0 (bstg m c)); iexact Hbb

theorem staged_run (c : Dev nD) :
    stagedIn m c ⊢ Runs c (cc0_body xM (hW _) wM (hW _) aM (hW _) bM (hW _) yM (hW _) tM (hW _) oM (hW _) cc0_scratch2 cc0_scratch3 cc0_scratch4)
      (fun _ => stagedOut m c) := by
  unfold stagedIn Φ₀ start ghost Dat.owesAt Pipeline.owesWithin
  rw [show (dats m 0 c).owed t₀.castSucc = owed0 c from rfl]
  iintro ⟨⟨⟨⟨%K, ⟨HR, Hp, Htk, Hi⟩⟩, Hcr, Hlev, Hy⟩, Ht, Ho⟩, ⟨%W, %hW', HO⟩, ⟨%dx, Hx⟩, ⟨%dw, Hw⟩, ⟨%da, Ha⟩, ⟨%db, Hb⟩⟩
  rw [before_x, before_w, before_a, before_b]
  ihave Hx := (held_eq c cc0_stg0_0 (xstg m c)) $$ Hx
  ihave Hw := (held_eq c cc0_stg1_0 (wstg m c)) $$ Hw
  ihave Ha := (held_eq c cc0_stg2_0 (astg m c)) $$ Ha
  ihave Hb := (held_eq c cc0_stg3_0 (bstg m c)) $$ Hb
  iapply (body_run m K c W fun _ => stagedOut m c)
  isplitl [HR]; · iexact HR
  isplitl [Hlev]; · iexact Hlev
  isplitr [Hi]
  · unfold bodyIn weights scales
    isplitl [Hp]; · iexact Hp
    isplitl [Htk]; · iexact Htk
    isplitl [Hcr]; · iexact Hcr
    isplitl [Hy]; · iexact Hy
    isplitl [Ht]; · iexact Ht
    isplitl [Ho]; · iexact Ho
    isplitl [HO]; · iexact HO
    isplitl [Hx]; · iexact Hx
    isplitl [Hw]; · iexact Hw
    isplitl [Ha] <;> iassumption
  · iintro Hout
    iapply (staged_close m c)
    isplitl [Hi] <;> iassumption

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole]
  exact staged_run m c

end Cert.ScatterProof
end
-- ==== Proof.Launch.lean ====
/-
  The launch. The kernel's semaphores are sorted by use, the records of their rounds are made, and each duty's token is
  handed to the device that pays it: a word at a barrier to the device that many places behind, a chunk to its sender.
  The run then ends with each device's result array at `outAt`, its arguments as they were and every semaphore at zero.
-/
module
public import proofs.«01_k».proof.Proof.Obligation
public import Idealize.ShloMosaic.Lib.Pipeline.CollectiveSegs
@[expose] public section
noncomputable section
namespace Cert.ScatterProof
open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg)

/-! ## The kernel's own semaphores -/

/-- The kernel's own semaphores: those the protocol uses, and the rest. -/
def osem : Used ⊕ Fin 16 → SemLoc sig
  | .inl u => .dma (usem u)
  | .inr j => .dma (iSem j)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Ci → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's duties: three words at its barrier, and one duty at every other semaphore it uses. -/
abbrev Duty : Type := Fin 3 ⊕ Used
def dutyOf : Duty → SemLoc sig × ℕ × Fin 4
  | .inl d => (.reg barS, 0, d.succ)
  | .inr u => (.dma (usem u), 0, 0)
theorem dutyOf_injective : Function.Injective dutyOf := by decide
def tokOf (cj : Dev nD × Duty) : GSem nD τ sig × ℕ × Fin 4 := (((cj.1 : Thread nD τ), (dutyOf cj.2).1), (dutyOf cj.2).2)
theorem tokOf_injective : Function.Injective tokOf := by
  rintro ⟨c, j⟩ ⟨c', j'⟩ h
  have h1 : c = c' := congrArg (fun x : GSem nD τ sig × ℕ × Fin 4 => x.1.1.1) h
  have h2 : j = j' := dutyOf_injective (congrArg (fun x : GSem nD τ sig × ℕ × Fin 4 => (x.1.2, x.2)) h)
  rw [h1, h2]
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

omit [FloatOps F] in
/-- A separating product over a device's cells, sorted. -/
theorem bigSep_ci (Φ : Ci → sProp 𝕄) : bigSep Finset.univ Φ
    = iprop(Φ (.inl ()) ∗ (bigSep Finset.univ fun i : Fin 8 => Φ (.inr (.inl i)))
      ∗ (bigSep Finset.univ fun i : Fin 8 => Φ (.inr (.inr (.inl i)))) ∗ bigSep Finset.univ fun q : Fin 4 => Φ (.inr (.inr (.inr q)))) := by
  rw [bigSep_univ_sum, bigSep_univ_sum (fun u : Used => Φ (.inr u)), bigSep_univ_sum (fun u : Fin 8 ⊕ Fin 4 => Φ (.inr (.inr u))),
    bigSep_univ_of_subsingleton (i := ())]
  rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The tokens of the duties at device `c`'s own cells. -/
def toks (c : Dev nD) : sProp 𝕄 :=
  iprop((dutyTok ER (barCell c) 0 1 ∗ dutyTok ER (barCell c) 0 2 ∗ dutyTok ER (barCell c) 0 3)
    ∗ (bigSep Finset.univ fun i : Fin 8 => dutyTok ER (sendCell c i) 0 0)
    ∗ (bigSep Finset.univ fun i : Fin 8 => dutyTok ER (recvCell c i) 0 0) ∗ bigSep Finset.univ fun q : Fin 4 => dutyTok ER (outCell c q) 0 0)

/-- What device `c` is dealt: the state of each of its cells, its place at it, and the tokens of its duties. -/
def G (c : Dev nD) : sProp 𝕄 :=
  iprop((bigSep Finset.univ fun k : Ci => roundState ER (sched m) (kcell (c, k)) 0)
    ∗ (bigSep Finset.univ fun k : Ci => iprop(atPos ER (kcell (c, k)) 0 ∅ 0 ∗ reached ER (kcell (c, k)) 0)) ∗ toks c)

def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ci => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_fin3, bigSep_univ_sum (fun u : Used => _), bigSep_univ_sum (fun u : Fin 8 ⊕ Fin 4 => _)]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun i : Fin 8 => semVal (sendCell c i) 0)
        ∗ (bigSep Finset.univ fun i : Fin 8 => semVal (recvCell c i) 0) ∗ bigSep Finset.univ fun q : Fin 4 => semVal (outCell c q) 0) ∗ idleSems c) := by
  unfold Pipeline.ownSems0 idleSems
  rw [bigSep_univ_sum, bigSep_univ_sum (fun u : Used => _), bigSep_univ_sum (fun u : Fin 8 ⊕ Fin 4 => _)]; rfl

omit [FloatOps F] in
theorem sems0_sorted (c : Dev nD) :
    iprop(Pipeline.ownSems0 (Ix := Unit) (Name := ℕ) (U := UU) (Lvl := ℕ) (Val := Elt F) (τ := τ) osem c ∗ unscopedSems0 c)
      ⊢ (iprop((bigSep Finset.univ fun k : Ci => semVal (kcell (c, k)) 0) ∗ idleSems c) : sProp 𝕄) := by
  rw [ownSems0_eq, unscopedSems0_eq, bigSep_ci]
  iintro ⟨⟨⟨HS, HV, HO⟩, HI⟩, HB⟩
  isplitr [HI]
  · isplitl [HB]; · iexact HB
    isplitl [HS]; · iexact HS
    isplitl [HV]; · iexact HV
    iexact HO
  iexact HI

/-- One device's cells recorded. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ci => iprop(∃ κ : ℕ, cellInv ER (sched m) κ (kcell (c, k))))
          ∗ (bigSep Finset.univ fun k : Ci => iprop(atPos ER (kcell (c, k)) 0 ∅ 0 ∗ reached ER (kcell (c, k)) 0)) ∗ toks c ∗ idleSems c) := by
  unfold G
  iintro ⟨Hos, Hus, Hst, Hat, Htok⟩
  ihave Hv := (sems0_sorted (F := F) c) $$ [Hos Hus]
  · isplitl [Hos] <;> iassumption
  icases Hv with ⟨Hv, Hid⟩
  imod (show iprop((bigSep Finset.univ fun k : Ci => semVal (kcell (c, k)) 0) ∗ bigSep Finset.univ fun k : Ci => roundState ER (sched m) (kcell (c, k)) 0)
      ⊢ (|={Set.univ}=> bigSep Finset.univ fun k : Ci => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Tokens handed to who pays -/

omit [FloatOps F] in
/-- What is indexed by (device, chunk) may be counted from the device the chunk comes from. -/
theorem chunks_around (Φ : Dev nD → Fin 8 → sProp 𝕄) :
    (bigSep Finset.univ fun c : Dev nD => bigSep Finset.univ fun i : Fin 8 => Φ c i)
      = bigSep Finset.univ fun c : Dev nD => bigSep Finset.univ fun i : Fin 8 => Φ (tgt c i) i := by
  let e : Dev nD × Fin 8 ≃ Dev nD × Fin 8 :=
    ⟨fun p => (tgt p.1 p.2, p.2), fun p => (src p.1 p.2, p.2), fun p => Prod.ext (src_tgt p.1 p.2) rfl, fun p => Prod.ext (tgt_src p.1 p.2) rfl⟩
  rw [← bigSep_univ_prod (fun p : Dev nD × Fin 8 => Φ p.1 p.2), ← bigSep_univ_prod (fun p : Dev nD × Fin 8 => Φ (tgt p.1 p.2) p.2)]
  exact bigSep_univ_equiv e fun p : Dev nD × Fin 8 => Φ p.1 p.2

omit [FloatOps F] in
theorem toks_around : (bigSep Finset.univ fun c : Dev nD => (toks c : sProp 𝕄)) = bigSep Finset.univ fun c : Dev nD => payToks c := by
  unfold toks payToks
  simp only [bigSep_sep']
  rw [bigSep_univ_equiv (aheadE 1) (fun c : Dev nD => (dutyTok ER (barCell c) 0 1 : sProp 𝕄)),
    bigSep_univ_equiv (aheadE 2) (fun c : Dev nD => (dutyTok ER (barCell c) 0 2 : sProp 𝕄)),
    bigSep_univ_equiv (aheadE 3) (fun c : Dev nD => (dutyTok ER (barCell c) 0 3 : sProp 𝕄)),
    chunks_around fun (c : Dev nD) (i : Fin 8) => (dutyTok ER (recvCell c i) 0 0 : sProp 𝕄)]
  rfl

omit [FloatOps F] in
theorem places_eq (c : Dev nD) : (bigSep Finset.univ fun k : Ci => (atPos ER (kcell (c, k)) 0 ∅ 0 : sProp 𝕄)) = places c := by
  rw [bigSep_ci]; rfl

theorem ghost_intro (K : Dev nD × Ci → ℕ) (c : Dev nD) : iprop(records m K ∗ (places c ∗ payToks c ∗ idleSems c)) ⊢ G' m c := by
  unfold G' ghost
  iintro H; iexists K; iexact H

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ci => iprop(∃ κ : ℕ, cellInv ER (sched m) κ (kcell (c, k))))
          ∗ (bigSep Finset.univ fun k : Ci => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × Ci => iprop(∃ κ : ℕ, cellInv ER (sched m) κ (kcell ck))),
    bigSep_congr (s := Finset.univ)
      (fun (c : Dev nD) _ => bigSep_sep' Finset.univ (fun k : Ci => (atPos ER (kcell (c, k)) 0 ∅ 0 : sProp 𝕄)) (fun k => reached ER (kcell (c, k)) 0)),
    bigSep_sep', ← bigSep_univ_prod (fun ck : Dev nD × Ci => (reached ER (kcell ck) 0 : sProp 𝕄)), toks_around,
    bigSep_congr (s := Finset.univ) (fun (c : Dev nD) _ => places_eq (F := F) c)]
  iintro ⟨HI, ⟨Hat, #HR⟩, Htok, Hid⟩
  ihave HK := (BI.bigSep_exists_pi Finset.univ (fun (ck : Dev nD × Ci) (κ : ℕ) => (cellInv ER (sched m) κ (kcell ck) : sProp 𝕄))) $$ HI
  icases HK with ⟨%K, #HI⟩
  iapply (bigSep_with (R := records m K) fun c _ => ghost_intro m K c)
  isplitr
  · unfold records; isplitl; · iexact HI
    iexact HR
  · rw [bigSep_sep', bigSep_sep']
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what the others owe -/

omit [FloatOps F] in
theorem cred_bar (d : Fin 4) (c : Dev nD) :
    (Pipeline.launchCred (fun b => tallyAt (barCell (ahead d.val b)) () 1) c : sProp 𝕄) ⊢ cred (tallyAt (barCell c) () 1) :=
  Pipeline.launchCred_tallyAt (.reg barS) (ahead d.val) (ahead (4 - d.val)) (fun c => ahead_ahead' c d) (fun c => ahead_ahead c d) () 1 c

omit [FloatOps F] in
theorem cred_chunk (i : Fin 8) (c : Dev nD) :
    (Pipeline.launchCred (fun b => owedChunk b i) c : sProp 𝕄) ⊢ cred (tallyAt (recvCell c i) () (amt i)) :=
  Pipeline.launchCred_tallyAt (.dma (rSem i)) (fun b => tgt b i) (fun b => src b i) (fun c => tgt_src c i) (fun c => src_tgt c i) () (amt i) c

omit [FloatOps F] in
theorem cred_chunks (n : ℕ) (c : Dev nD) : (Pipeline.launchCred (fun b => owedChunks b (n + 1)) c : sProp 𝕄)
    ⊢ iprop(Pipeline.launchCred (fun b => owedChunks b n) c ∗ cred (tallyAt (recvCell c (⟨7 - n, by omega⟩ : Fin 8)) () (amt ⟨7 - n, by omega⟩))) := by
  rw [show (fun b => owedChunks b (n + 1)) = fun b => owedChunks b n + owedChunk b (⟨7 - n, by omega⟩ : Fin 8) from rfl, Pipeline.launchCred_add]
  exact sep_mono_right (cred_chunk _ c)

theorem creds (c : Dev nD) : (Pipeline.launchCred owed0 c : sProp 𝕄) ⊢ credits c := by
  unfold credits
  rw [bigSep_fin8, show (owed0 : Dev nD → CellTallies nD τ sig Unit)
      = fun b => ((owedChunks b 8 + tallyAt (barCell (ahead (3 : Fin 4).val b)) () 1) + tallyAt (barCell (ahead (2 : Fin 4).val b)) () 1)
        + tallyAt (barCell (ahead (1 : Fin 4).val b)) () 1 from rfl,
    Pipeline.launchCred_add, Pipeline.launchCred_add, Pipeline.launchCred_add,
    show (tallyAt (barCell c) () 3 : CellTallies nD τ sig Unit) = tallyAt (barCell c) () 1 + tallyAt (barCell c) () 1 + tallyAt (barCell c) () 1 from by
      rw [tallyAt_add, tallyAt_add]]
  iintro ⟨⟨⟨H, H3⟩, H2⟩, H1⟩
  ihave H1 := (cred_bar (F := F) 1 c) $$ H1
  ihave H2 := (cred_bar (F := F) 2 c) $$ H2
  ihave H3 := (cred_bar (F := F) 3 c) $$ H3
  icases (cred_chunks (F := F) 7 c) $$ H with ⟨H, C0⟩
  icases (cred_chunks (F := F) 6 c) $$ H with ⟨H, C1⟩
  icases (cred_chunks (F := F) 5 c) $$ H with ⟨H, C2⟩
  icases (cred_chunks (F := F) 4 c) $$ H with ⟨H, C3⟩
  icases (cred_chunks (F := F) 3 c) $$ H with ⟨H, C4⟩
  icases (cred_chunks (F := F) 2 c) $$ H with ⟨H, C5⟩
  icases (cred_chunks (F := F) 1 c) $$ H with ⟨H, C6⟩
  icases (cred_chunks (F := F) 0 c) $$ H with ⟨-, C7⟩
  isplitl [H1 H2 H3]
  · iapply (cred_add _ _).2
    isplitr [H3]
    · iapply (cred_add _ _).2
      isplitl [H1] <;> iassumption
    iexact H3
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

/-! ## Into the region and out of it -/

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start m c ∗ emp) := by
  rw [Pipeline.unscopedRestP_none, show (Pipeline.unscopedRest (Ix := Unit) (Name := ℕ) (U := UU) (Lvl := ℕ) cfg0.spec c
      (fun b => m ((c : Thread nD τ).loc b)) : sProp 𝕄) = (yloc c ↦{fullShare} m (yloc c)) from unscopedRest0_eq c _]
  iintro ⟨Hy, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hy
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N)
      ⊢ iprop((unscopedSems0 c ∗ (yloc c ↦{fullShare} (outAt m c : Buf (Elt F) (yloc c)))) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hy, ⟨HB, HS, HV, HO, HI⟩, Hr⟩
  isplitl [Hy HB]
  · isplitl [HB] <;> iassumption
  isplitr [Hr]
  · isplitr [HI]
    · isplitl [HS]; · iexact HS
      isplitl [HV] <;> iassumption
    iexact HI
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a final state holds: each window's array at its computed contents, the result at `outAt`. -/
def Ends : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem (yloc c) = (outAt m c : Buf (Elt F) (yloc c))

set_option maxRecDepth 8000 in
theorem run_region : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ (yloc c ↦{fullShare} (outAt m c : Buf (Elt F) (yloc c))))) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ s.mem (yloc c) = (outAt m c : Buf (Elt F) (yloc c)))
    (hY := fun c s' => by
      iintro ⟨⟨Hu, Hy⟩, -, HSI⟩
      icombine HSI Hy gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨(h c).1, (h c).2.2.2⟩, sem_eq_zero hs fun c => (h c).2.2.1⟩)

end Cert.ScatterProof
end
-- ==== Proof.Products.lean ====
/-
  The int8 products, read at an index.

  The chip's int8 matrix product is exact, as a 32-bit word, while the magnitudes of the products it adds total at
  most 2^24 - 1. Along 1024 entries that total can only be missed when every one of the 1024 pairs is (-128)·(-128).
  So a product at (r, j) is exact as soon as row r of the one factor or column j of the other holds an entry that is
  not -128, and the word it leaves is the sum of the products.
-/
module
public import Idealize.ShloMosaic.Lib.IntMxu
public import Idealize.ShloMosaic.Lib.MatmulPlain
public import Idealize.ShloMosaic.Lib.ValueIdx

@[expose] public section
noncomputable section
namespace Cert.ScatterProof
open Idealize.ShloMosaic
open Idealize.ShloMosaic.ValueIdx
open scoped BigOperators

/-- An int8 word other than -128 has magnitude at most 127. -/
theorem natAbs_le_127 {x : BitVec 8} (h : x ≠ 128#8) : x.toInt.natAbs ≤ 127 := by
  revert x; decide

/-- Two int8 words, one of them not -128, have a product of magnitude below 2^14. -/
theorem natAbs_mul_lt {x y : BitVec 8} (h : x ≠ 128#8 ∨ y ≠ 128#8) : (x.toInt * y.toInt).natAbs < 16384 := by
  rw [Int.natAbs_mul]
  rcases h with h | h
  · exact lt_of_le_of_lt (Nat.mul_le_mul (natAbs_le_127 h) (natAbs_toInt_i8_le y)) (by decide)
  · exact lt_of_le_of_lt (Nat.mul_le_mul (natAbs_toInt_i8_le x) (natAbs_le_127 h)) (by decide)

/-- Any two int8 words have a product of magnitude at most 2^14. -/
theorem natAbs_mul_le (x y : BitVec 8) : (x.toInt * y.toInt).natAbs ≤ 16384 := by
  rw [Int.natAbs_mul]
  exact Nat.mul_le_mul (natAbs_toInt_i8_le x) (natAbs_toInt_i8_le y)

section
variable {M : ℕ} (x : IVec ⟨2, ![M, 1024]⟩ 8) (w : IVec ⟨2, ![1024, 2048]⟩ 8) (r : Fin M) (j : Fin 2048)

/-- Where the product's left factor is read. -/
theorem plain_lhs (k : Fin 1024) :
    (DotDims.plain M 1024 2048).lhsIdx (ix2 r j) ((DotDims.plainContr M 1024 2048).symm k) = ix2 r k := by
  have hk := contrEquiv1_symm_val _ 1024 (DotDims.plain_contr_rank M 1024 2048) (DotDims.plain_contr_size M 1024 2048) k
  funext a; apply Fin.ext
  match a with
  | ⟨0, _⟩ => rfl
  | ⟨1, _⟩ => exact hk

/-- Where the product's right factor is read. -/
theorem plain_rhs (k : Fin 1024) :
    (DotDims.plain M 1024 2048).rhsIdx (ix2 r j) ((DotDims.plainContr M 1024 2048).symm k) = ix2 k j := by
  have hk := contrEquiv1_symm_val _ 1024 (DotDims.plain_contr_rank M 1024 2048) (DotDims.plain_contr_size M 1024 2048) k
  funext a; apply Fin.ext
  match a with
  | ⟨0, _⟩ => exact hk
  | ⟨1, _⟩ => rfl

/-- The sum a product at (r, j) is meant to be. -/
def dotAt : ℤ := ∑ k : Fin 1024, (x (ix2 r k)).toInt * (w (ix2 k j)).toInt

/-- Row r of the one factor or column j of the other holds an entry that is not -128. -/
def Fits : Prop := ∃ k : Fin 1024, x (ix2 r k) ≠ 128#8 ∨ w (ix2 k j) ≠ 128#8

theorem dotI8_plain : dotI8 (DotDims.plain M 1024 2048) x w (ix2 r j) = dotAt x w r j := by
  unfold dotI8 dotAt
  rw [← Equiv.sum_comp (DotDims.plainContr M 1024 2048).symm]
  exact Finset.sum_congr rfl fun k _ => by rw [plain_lhs, plain_rhs]

theorem absDotI8_plain : absDotI8 (DotDims.plain M 1024 2048) x w (ix2 r j)
    = ∑ k : Fin 1024, ((x (ix2 r k)).toInt * (w (ix2 k j)).toInt).natAbs := by
  unfold absDotI8
  rw [← Equiv.sum_comp (DotDims.plainContr M 1024 2048).symm]
  exact Finset.sum_congr rfl fun k _ => by rw [plain_lhs, plain_rhs]

variable {x w r j}

/-- Under `Fits` the magnitudes total less than 2^24. -/
theorem abs_total (h : Fits x w r j) : ∑ k : Fin 1024, ((x (ix2 r k)).toInt * (w (ix2 k j)).toInt).natAbs < 2 ^ 24 := by
  obtain ⟨k, hk⟩ := h
  calc ∑ k : Fin 1024, ((x (ix2 r k)).toInt * (w (ix2 k j)).toInt).natAbs
      < ∑ _k : Fin 1024, 16384 := Finset.sum_lt_sum (fun k _ => natAbs_mul_le _ _) ⟨k, Finset.mem_univ k, natAbs_mul_lt hk⟩
    _ = 2 ^ 24 := by simp

/-- Under `Fits` the word a product leaves at (r, j) is the sum of the products. -/
theorem mm_word {d : DotDims ⟨2, ![M, 1024]⟩ ⟨2, ![1024, 2048]⟩ ⟨2, ![M, 2048]⟩} (hd : d = DotDims.plain M 1024 2048)
    (h : Fits x w r j) :
    matmulI8 IntMxuNumerics.v7x d x w (constantI ⟨2, ![M, 2048]⟩ 32 0#32) (ix2 r j) = BitVec.ofInt 32 (dotAt x w r j) := by
  subst hd
  rw [matmulI8_exact _ _ _ _ _ _ rfl, dotI8_plain]
  rw [absDotI8_plain]
  exact Nat.le_of_lt_succ (abs_total h)

/-- Under `Fits` that sum is below 2^24 in magnitude. -/
theorem abs_dotAt (h : Fits x w r j) : (dotAt x w r j).natAbs < 2 ^ 24 :=
  lt_of_le_of_lt (Int.natAbs_sum_le _ _) (abs_total h)

end

/-- Four such sums added as words: read as a signed number, the word is the sum of the four. -/
theorem four_words {a b c d : ℤ} (ha : a.natAbs < 2 ^ 24) (hb : b.natAbs < 2 ^ 24) (hc : c.natAbs < 2 ^ 24)
    (hd : d.natAbs < 2 ^ 24) :
    (BitVec.ofInt 32 a + BitVec.ofInt 32 b + BitVec.ofInt 32 c + BitVec.ofInt 32 d).toInt = a + b + c + d := by
  rw [← BitVec.ofInt_add, ← BitVec.ofInt_add, ← BitVec.ofInt_add]
  apply BitVec.toInt_ofInt_eq_self (by norm_num) <;> norm_num <;> omega

end Cert.ScatterProof
end
-- ==== Proof.Quarters.lean ====
/-
  The result of a device as one word per element.

  Row R of device c's result is a sum over the four devices s: row 1024 c + R of s's shard against the 1024 rows of
  the weights from 1024 s. Each quarter's loads are read at an index here, so that an element of the result is the
  four-term sum, converted and scaled.
-/
module
public import proofs.«01_k».proof.Proof.Values
public import proofs.«01_k».proof.Proof.Products
public import Idealize.ShloMosaic.Lib.Pipeline.Value

@[expose] public section
noncomputable section
namespace Cert.ScatterProof
open Cert.KernelIdeal Cert.KernelIdeal.Gen
open Idealize.ShloMosaic
open Idealize.ShloMosaic.TcCoe
open Idealize.ShloMosaic.ValueIdx
open Idealize.SL Idealize.SL.Sem
open scoped BigOperators

variable {F : FTy → Type} [FloatOps F]
variable (m : (ℓ : Loc nD τ sig) → Buf (Elt F) ℓ)

/-- Position `R` of the block of 1024 that belongs to device `c`. -/
def rowAt (c : Dev nD) (R : Fin 1024) : Fin 4096 :=
  ⟨1024 * c.val + R.val, by have h : c.val < 4 := c.isLt; have := R.isLt; omega⟩

/-- An entry of device `s`'s shard and of its weights. -/
def xE (s : Dev nD) (R : Fin 4096) (k : Fin 1024) : BitVec 8 := xstg m s (ix2 R k : S4096x1024.Idx)
def wE (c : Dev nD) (K : Fin 4096) (j : Fin 2048) : BitVec 8 := wstg m c (ix2 K j : S4096x2048.Idx)

/-- What device `s`'s shard contributes to element (R, j) of device `c`'s result. -/
def term (c s : Dev nD) (R : Fin 1024) (j : Fin 2048) : ℤ :=
  ∑ k : Fin 1024, (xE m s (rowAt c R) k).toInt * (wE m c (rowAt s k) j).toInt

/-- No product of device `c` meets a row of a shard and a column of the weights that are -128 throughout. -/
def Bounded (c : Dev nD) : Prop := ∀ (s : Dev nD) (R : Fin 1024) (j : Fin 2048),
  ∃ k : Fin 1024, xE m s (rowAt c R) k ≠ 128#8 ∨ wE m c (rowAt s k) j ≠ 128#8

/-! ## Loads at an index -/

theorem ldX_at {off : Fin 2 → ℕ} {p : ℕ} (ho : off = ![p, 0]) (inb) (f : (cc0_stg0_0 : Ref sig .tc).ty.Contents (Elt F))
    (r : Fin 512) (k : Fin 1024) (R : Fin 4096) (hR : p + r.val = R.val) :
    ldX off inb f (ix2 r k : S512x1024.Idx) = f (ix2 R k : S4096x1024.Idx) := by
  subst ho
  refine congrArg f (Shape.idx_ext₂ ?_ ?_)
  · show p + 1 * r.val = R.val; omega
  · show 0 + 1 * k.val = k.val; omega

theorem ldW_at {off : Fin 2 → ℕ} {p : ℕ} (ho : off = ![p, 0]) (inb) (f : (cc0_stg1_0 : Ref sig .tc).ty.Contents (Elt F))
    (k : Fin 1024) (j : Fin 2048) (K : Fin 4096) (hK : p + k.val = K.val) :
    ldW off inb f (ix2 k j : S1024x2048.Idx) = f (ix2 K j : S4096x2048.Idx) := by
  subst ho
  refine congrArg f (Shape.idx_ext₂ ?_ ?_)
  · show p + 1 * k.val = K.val; omega
  · show 0 + 1 * j.val = j.val; omega

/-- A row of a chunk that has landed is a row of its sender's shard. -/
theorem landed_row (c s : Dev nD) {off : Fin 3 → ℕ} {p n : ℕ} (ho : off = ![s.val, p, 0]) (inb)
    (i : (⟨3, ![1, n, 1024]⟩ : Shape).Idx) (r : Fin n) (k : Fin 1024) (hr : (i 1).val = r.val) (hk : (i 2).val = k.val)
    (R : Fin 1024) (hR : p + r.val = R.val) :
    tM.view.readAt (Elt F) (Rect.unit (s := S4x1024x1024) off (⟨3, ![1, n, 1024]⟩ : Shape).size inb).toLoadRect (landed m c) i
      = xE m s (rowAt c R) k := by
  subst ho
  have h0 : (i 0).val = 0 := by have : (i 0).val < 1 := (i 0).isLt; omega
  have hs : s = (⟨s.val + 1 * (i 0).val, by rw [h0]; exact s.isLt⟩ : Dev nD) := Fin.ext (by show s.val = s.val + 1 * (i 0).val; omega)
  show xstg m (⟨s.val + 1 * (i 0).val, _⟩ : Dev nD) _ = xstg m s _
  refine (congrArg (fun d => xstg m d _) hs.symm).trans (congrArg (xstg m s) (Shape.idx_ext₂ ?_ ?_))
  · show 1024 * c.val + (p + 1 * (i 1).val) = 1024 * c.val + R.val; omega
  · show 0 + 1 * (i 2).val = k.val; omega

/-! ## One block's product -/

section
variable {m} {c : Dev nD} (B : Bounded m c)
include B

/-- A product of rows of `s`'s shard with the weights from `1024 s` is that shard's contribution. -/
theorem block_word {M : ℕ} {x : IVec ⟨2, ![M, 1024]⟩ 8} {w : IVec ⟨2, ![1024, 2048]⟩ 8}
    {d : DotDims ⟨2, ![M, 1024]⟩ ⟨2, ![1024, 2048]⟩ ⟨2, ![M, 2048]⟩} (hd : d = DotDims.plain M 1024 2048)
    (r : Fin M) (j : Fin 2048) (s : Dev nD) (R : Fin 1024) (hx : ∀ k, x (ix2 r k) = xE m s (rowAt c R) k)
    (hw : ∀ k, w (ix2 k j) = wE m c (rowAt s k) j) :
    matmulI8 IntMxuNumerics.v7x d x w (constantI ⟨2, ![M, 2048]⟩ 32 0#32) (ix2 r j) = BitVec.ofInt 32 (term m c s R j) := by
  have e : dotAt x w r j = term m c s R j := Finset.sum_congr rfl fun k _ => by rw [hx, hw]
  rw [← e]
  obtain ⟨k, hk⟩ := B s R j
  exact mm_word hd ⟨k, by rwa [hx, hw]⟩

/-- One contribution is below 2^24 in magnitude. -/
theorem abs_term (s : Dev nD) (R : Fin 1024) (j : Fin 2048) : (term m c s R j).natAbs < 2 ^ 24 := by
  obtain ⟨k, hk⟩ := B s R j
  exact abs_dotAt (M := 1) (x := fun i => xE m s (rowAt c R) ⟨(i 1).val, (i 1).isLt⟩)
    (w := fun i => wE m c (rowAt s ⟨(i 0).val, (i 0).isLt⟩) ⟨(i 1).val, (i 1).isLt⟩) (r := 0) (j := j) ⟨k, hk⟩

/-- The device's own half, … -/
theorem own_half {off off' : Fin 2 → ℕ} {p : ℕ} (ho : off = ![1024 * c.val + p, 0]) (inb) (ho' : off' = ![1024 * c.val, 0]) (inb')
    (r : Fin 512) (j : Fin 2048) (R : Fin 1024) (hR : p + r.val = R.val) :
    k0_pay2 (ldX off inb (xstg m c)) (ldW off' inb' (wstg m c)) (ix2 r j) = BitVec.ofInt 32 (term m c c R j) := by
  unfold k0_pay2
  rw [shapeCast_self, shapeCast_self]
  refine block_word B rfl r j c R (fun k => ldX_at ho inb _ r k _ ?_) (fun k => ldW_at ho' inb' _ k j _ rfl)
  show 1024 * c.val + p + r.val = 1024 * c.val + R.val; omega

/-- … and a half that has landed. -/
theorem landed_half (s : Dev nD) {off : Fin 3 → ℕ} {off' : Fin 2 → ℕ} {p : ℕ} (ho : off = ![s.val, p, 0]) (inb)
    (ho' : off' = ![1024 * s.val, 0]) (inb') (r : Fin 512) (j : Fin 2048) (R : Fin 1024) (hR : p + r.val = R.val) :
    k0_pay8 (ldT off inb (landed m c)) (ldW off' inb' (wstg m c)) (ix2 r j) = BitVec.ofInt 32 (term m c s R j) := by
  unfold k0_pay8
  rw [shapeCast_self]
  refine block_word B rfl r j s R (fun k => ?_) (fun k => ldW_at ho' inb' _ k j _ rfl)
  refine (shapeCast_dropUnit_apply ![512, 1024] _ _ _).trans ?_
  exact landed_row m c s ho inb _ r k rfl rfl R hR

/-- A quarter, given its accumulator: the last block's word added, the sum converted and scaled. -/
theorem quarter (v : F .f32) (acc : IVec S256x2048 32) (s : Dev nD) {off : Fin 3 → ℕ} {off' : Fin 2 → ℕ} {p : ℕ}
    (ho : off = ![s.val, p, 0]) (inb) (ho' : off' = ![1024 * s.val, 0]) (inb') (r : Fin 256) (j : Fin 2048) (R : Fin 1024)
    (hR : p + r.val = R.val) (u : BitVec 32) (hu : acc (ix2 r j) = u) :
    k0_pay17 v acc (ldQ off inb (landed m c)) (ldW off' inb' (wstg m c)) (ix2 r j)
      = FloatOps.mulf (FloatOps.sitofp .f32 (u + BitVec.ofInt 32 (term m c s R j))) v := by
  unfold k0_pay17
  rw [shapeCast_self, shapeCast_self, ← hu]
  have key : matmulI8 IntMxuNumerics.v7x dot_S256x1024_S1024x2048_S256x2048_1_0_0_1_n_n
      (shapeCast S256x1024 (ldQ off inb (landed m c)) shapeCasts_S1x256x1024_S256x1024) (ldW off' inb' (wstg m c))
      (constantI S256x2048 32 0#32) (ix2 r j) = BitVec.ofInt 32 (term m c s R j) := by
    refine block_word B rfl r j s R (fun k => ?_) (fun k => ldW_at ho' inb' _ k j _ rfl)
    refine (shapeCast_dropUnit_apply ![256, 1024] _ _ _).trans ?_
    exact landed_row m c s ho inb _ r k rfl rfl R hR
  rw [← key]
  rfl

/-! ## The four quarters -/

variable (c) in
omit B in
/-- Element (R, j) before it is converted: the four contributions, in the order they are added. -/
def word (m : (ℓ : Loc nD τ sig) → Buf (Elt F) ℓ) (R : Fin 1024) (j : Fin 2048) : BitVec 32 :=
  BitVec.ofInt 32 (term m c c R j) + BitVec.ofInt 32 (term m c (ahead 3 c) R j)
    + BitVec.ofInt 32 (term m c (ahead 1 c) R j) + BitVec.ofInt 32 (term m c (ahead 2 c) R j)

omit B [FloatOps F] in
/-- A quarter of a half's product. -/
theorem slice_at {q : ℕ} (v : IVec S512x2048 32) (h : S512x2048.Slices ![q, 0] S256x2048) (r : Fin 256) (j : Fin 2048)
    (R : Fin 512) (hR : q + r.val = R.val) : extractStridedSlice S256x2048 ![q, 0] v h (ix2 r j) = v (ix2 R j) := by
  refine extractStridedSlice_apply _ _ _ _ _ fun a => ?_
  match a with
  | ⟨0, _⟩ => exact hR.symm
  | ⟨1, _⟩ => exact (Nat.zero_add _).symm

/-- Three blocks of a quarter added: the slices at row `q` of three halves whose first row is `p` of the block. -/
theorem three_blocks {offx off1 off3 : _} {p q : ℕ} (hx : offx = ![1024 * c.val + p, 0]) (ix)
    (h1 : off1 = ![(ahead 3 c).val, p, 0]) (i1) (h3 : off3 = ![(ahead 1 c).val, p, 0]) (i3)
    (h : S512x2048.Slices ![q, 0] S256x2048) (r : Fin 256) (j : Fin 2048) (hq : q + 256 ≤ 512) (R : Fin 1024) (hR : p + (q + r.val) = R.val) :
    extractStridedSlice S256x2048 ![q, 0] (k0_pay2 (ldX offx ix (xstg m c)) (w0 m c)) h (ix2 r j)
      + extractStridedSlice S256x2048 ![q, 0] (k0_pay8 (ldT off1 i1 (landed m c)) (w1 m c)) h (ix2 r j)
      + extractStridedSlice S256x2048 ![q, 0] (k0_pay8 (ldT off3 i3 (landed m c)) (w3 m c)) h (ix2 r j)
      = BitVec.ofInt 32 (term m c c R j) + BitVec.ofInt 32 (term m c (ahead 3 c) R j) + BitVec.ofInt 32 (term m c (ahead 1 c) R j) := by
  have hr := r.isLt
  have e : q + r.val = (⟨q + r.val, by omega⟩ : Fin 512).val := rfl
  rw [slice_at _ h r j _ e, slice_at _ h r j _ e, slice_at _ h r j _ e]
  rw [show w0 m c = ldW _ _ _ from rfl, show w1 m c = ldW _ _ _ from rfl, show w3 m c = ldW _ _ _ from rfl,
    own_half B hx ix (off10_at c) _ _ j R hR, landed_half B (ahead 3 c) h1 i1 (off13_1 c) _ _ j R hR,
    landed_half B (ahead 1 c) h3 i3 (off13_3 c) _ _ j R hR]

/-- Row `r` of quarter `q` is row `256 q + r` of the result. -/
theorem outQ_at (q : Fin 4) (r : Fin 256) (j : Fin 2048) (R : Fin 1024) (hR : 256 * q.val + r.val = R.val) :
    outQ m c q (ix2 r j) = FloatOps.mulf (FloatOps.sitofp .f32 (word c m R j)) (scl m c) := by
  match q, hR with
  | ⟨0, _⟩, hR =>
    have hR : 256 * 0 + r.val = R.val := hR
    exact quarter B (p := 0) _ _ (ahead 2 c) (off15_at c) _ (off13_2 c) _ r j R (by omega) _
      (three_blocks B (p := 0) (q := 0) (off9_0 c) _ (off12_1 c) _ (off12_3 c) _ slices_S512x2048_o0_0_S256x2048 r j (by decide) R (by omega))
  | ⟨1, _⟩, hR =>
    have hR : 256 * 1 + r.val = R.val := hR
    exact quarter B (p := 256) _ _ (ahead 2 c) (off17_at c) _ (off13_2 c) _ r j R (by omega) _
      (three_blocks B (p := 0) (q := 256) (off9_0 c) _ (off12_1 c) _ (off12_3 c) _ slices_S512x2048_o256_0_S256x2048 r j (by decide) R (by omega))
  | ⟨2, _⟩, hR =>
    have hR : 256 * 2 + r.val = R.val := hR
    exact quarter B (p := 512) _ _ (ahead 2 c) (off21_at c) _ (off13_2 c) _ r j R (by omega) _
      (three_blocks B (p := 512) (q := 0) (off9_1 c) _ (off19_1 c) _ (off19_3 c) _ slices_S512x2048_o0_0_S256x2048 r j (by decide) R (by omega))
  | ⟨3, _⟩, hR =>
    have hR : 256 * 3 + r.val = R.val := hR
    exact quarter B (p := 768) _ _ (ahead 2 c) (off23_at c) _ (off13_2 c) _ r j R (by omega) _
      (three_blocks B (p := 512) (q := 256) (off9_1 c) _ (off19_1 c) _ (off19_3 c) _ slices_S512x2048_o256_0_S256x2048 r j (by decide) R (by omega))

/-- An element of the result. -/
theorem outAt_word (R : Fin 1024) (j : Fin 2048) :
    outAt m c (ix2 R j) = FloatOps.mulf (FloatOps.sitofp .f32 (word c m R j)) (scl m c) :=
  outQ_at B _ _ _ R (by
    show 256 * (R.val / 256) + R.val % 256 = R.val
    exact Nat.div_add_mod _ _)

omit B [FloatOps F] in
theorem ahead_zero (c : Dev nD) : ahead (0 : Fin 4).val c = c := by revert c; decide

/-- The word of an element, read as a signed number, is the sum of the four contributions. -/
theorem word_toInt (R : Fin 1024) (j : Fin 2048) : (word c m R j).toInt = ∑ s : Dev nD, term m c s R j := by
  rw [word, four_words (abs_term B _ R j) (abs_term B _ R j) (abs_term B _ R j) (abs_term B _ R j),
    ← Equiv.sum_comp (meshE c)]
  show _ = ∑ d : Fin 4, term m c (ahead d.val c) R j
  rw [Fin.sum_univ_four]
  have h0 : ahead (0 : Fin 4).val c = c := ahead_zero c
  rw [h0]
  show _ = term m c c R j + term m c (ahead 1 c) R j + term m c (ahead 2 c) R j + term m c (ahead 3 c) R j
  ring

end

end Cert.ScatterProof
end
-- ==== Proof.Inputs.lean ====
/-
  The arguments and the precondition.

  The staged blocks are whole argument arrays. The precondition asks of each device that, for every row of its shard
  and every column of each 1024-row block of its weights, the row or the column holds an entry that is not -128; with
  the same weights on every device that is what each product of the kernel needs.
-/
module
public import proofs.«01_k».proof.Proof.Quarters
public import proofs.«01_k».proof.Defs

@[expose] public section
noncomputable section
namespace Cert.ScatterProof
open Cert.KernelIdeal Cert.KernelIdeal.Gen
open Idealize.ShloMosaic
open Idealize.ShloMosaic.TcCoe
open Idealize.ShloMosaic.ValueIdx
open Idealize.SL Idealize.SL.Sem

variable {F : FTy → Type} [FloatOps F]
variable (m : (ℓ : Loc nD τ sig) → Buf (Elt F) ℓ)

/-! ## The staged blocks -/

theorem xstg_eq (c : Dev nD) : xstg m c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

theorem wstg_eq (c : Dev nD) : wstg m c = m ((c : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _

theorem astg_eq (c : Dev nD) : astg m c = m ((c : Thread nD τ).loc main_arg2) :=
  Memref.read_access_unit_zero (Elt F) main_arg2
    (show (fun a => (win0_2.index (0 : Fin 1)) a * main_arg2.ty.shape.size a) = fun _ => 0 from funext fun a => by fin_cases a; decide)
    (fun a => by fin_cases a; decide) _

theorem bstg_eq (c : Dev nD) : bstg m c = m ((c : Thread nD τ).loc main_arg3) :=
  Memref.read_access_unit_zero (Elt F) main_arg3
    (show (fun a => (win0_3.index (0 : Fin 1)) a * main_arg3.ty.shape.size a) = fun _ => 0 from funext fun a => by fin_cases a; decide)
    (fun a => by fin_cases a; decide) _

/-- The scale: the product of the two scale arguments. -/
theorem scl_eq (c : Dev nD) : scl m c = Scalar.mulf
    (m ((c : Thread nD τ).loc main_arg2) (ix1 (0 : Fin 1) : S1.Idx)) (m ((c : Thread nD τ).loc main_arg3) (ix1 (0 : Fin 1) : S1.Idx)) := by
  have ha : aVal m c = m ((c : Thread nD τ).loc main_arg2) (ix1 (0 : Fin 1) : S1.Idx) := by
    rw [← astg_eq m c]
    exact congrArg (astg m c) (funext fun a => match a with | ⟨0, _⟩ => Subsingleton.elim (α := Fin 1) _ _)
  have hb : bVal m c = m ((c : Thread nD τ).loc main_arg3) (ix1 (0 : Fin 1) : S1.Idx) := by
    rw [← bstg_eq m c]
    exact congrArg (bstg m c) (funext fun a => match a with | ⟨0, _⟩ => Subsingleton.elim (α := Fin 1) _ _)
  show Scalar.mulf (aVal m c) (bVal m c) = _
  rw [ha, hb]

/-! ## The precondition read back -/

/-- A fold by `or` of one-bit words that starts at 0 and comes out 1 met a 1. -/
theorem foldl_ori_one {ι : Type} (f : ι → BitVec 1) : ∀ (l : List ι) (b : BitVec 1),
    l.foldl (fun r n => IntOp.ori r (f n)) b = 1#1 → b = 1#1 ∨ ∃ n ∈ l, f n = 1#1
  | [], b, h => Or.inl h
  | a :: l, b, h => by
    rcases foldl_ori_one f l _ h with h1 | ⟨n, hn, hf⟩
    · rcases IntOp.ori_eq_one.1 h1 with h2 | h2
      · exact Or.inl h2
      · exact Or.inr ⟨a, List.mem_cons_self .., h2⟩
    · exact Or.inr ⟨n, List.mem_cons_of_mem _ hn, hf⟩

/-- A reduction by `or` from 0 that is 1 at `j` had a 1 among the elements that reduce into `j`. -/
theorem reduce_ori_one {s t u : Shape} {axes : List (Fin s.rank)} (x : s.Idx → BitVec 1) (init : u.Idx → BitVec 1)
    (h : s.ReducesTo axes t) (hu : 0 < u.numel) (j : t.Idx) (h0 : init (Shape.Idx.first hu) = 0#1)
    (e : Host.reduce IntOp.ori x init h hu j = 1#1) : ∃ i : s.Idx, h.drop i = j ∧ x i = 1#1 := by
  rw [Host.reduce_eq_foldl] at e
  rcases foldl_ori_one x _ _ e with h1 | ⟨i, hi, hx⟩
  · rw [h0] at h1; exact absurd h1 (by decide)
  · exact ⟨i, by simpa using (List.mem_filter.1 hi).2, hx⟩

/-- The predicate's shape conditions. -/
theorem preFacts : Cert.Pre_bounded_KernelIdeal.Facts where
  bcast_S_S4096x1024 := by decide
  reducesTo_S4096x1024_S4096_d1 := by decide
  h_S_ := by decide
  shapeCasts_S4096x2048_S4x1024x2048 := by decide
  bcast_S_S4x1024x2048 := by decide
  reducesTo_S4x1024x2048_S4x2048_d1 := by decide
  bcast_S4096_S4096x1x1_0 := by decide
  bcast_S4x2048_S1x4x2048_1_2 := by decide
  bcast_S4096x1x1_S4096x4x2048_0_1_2 := by decide
  bcast_S1x4x2048_S4096x4x2048_0_1_2 := by decide

theorem preFactsRef : Cert.Pre_bounded_ReferenceIdeal.Facts where
  bcast_S_S4096x4096 := by decide
  reducesTo_S4096x4096_S4096_d1 := by decide
  h_S_ := by decide
  shapeCasts_S4096x2048_S4x1024x2048 := by decide
  bcast_S_S4x1024x2048 := by decide
  reducesTo_S4x1024x2048_S4x2048_d1 := by decide
  bcast_S4096_S4096x1x1_0 := by decide
  bcast_S4x2048_S1x4x2048_1_2 := by decide
  bcast_S4096x1x1_S4096x4x2048_0_1_2 := by decide
  bcast_S1x4x2048_S4096x4x2048_0_1_2 := by decide

/-- The predicate at row `r`, block `s` and column `j`. -/
theorem pre_at [hf : Cert.Pre_bounded_KernelIdeal.Facts] (x : IVec S4096x1024 8) (w : IVec S4096x2048 8) (a b : FVec F S1 .f32)
    (h : Cert.Pre_bounded_KernelIdeal.fn (F := F) x w a b = fun _ => 1#1) (r : Fin 4096) (s : Fin 4) (j : Fin 2048) :
    (∃ k : Fin 1024, x (ix2 r k) ≠ 128#8) ∨ ∃ k : Fin 1024, w (ix2 (rowAt s k) j) ≠ 128#8 := by
  have e := congrFun h (ix3 r s j : Cert.Pre_bounded_KernelIdeal.S4096x4x2048.Idx)
  unfold Cert.Pre_bounded_KernelIdeal.fn at e
  rcases IntOp.ori_eq_one.1 e with e | e
  · left
    obtain ⟨i, hi, hx⟩ := reduce_ori_one _ _ _ _ _ rfl e
    have hx := IntOp.cmpi_ne.1 hx
    have h0 : (i 0).val = r.val := by
      have := congrArg (fun v => (v 0).val) hi
      exact (Shape.ReducesTo.drop_apply_val_of_eq _ i 0 0).symm.trans this
    refine ⟨⟨(i 1).val, (i 1).isLt⟩, ?_⟩
    rwa [show (ix2 r ⟨(i 1).val, (i 1).isLt⟩ : S4096x1024.Idx) = i from Shape.idx_ext₂ h0.symm rfl]
  · right
    obtain ⟨i, hi, hx⟩ := reduce_ori_one _ _ _ _ _ rfl e
    have hx := IntOp.cmpi_ne.1 hx
    have h0 : (i 0).val = s.val := by
      have := congrArg (fun v => (v 0).val) hi
      exact (Shape.ReducesTo.drop_apply_val_of_eq _ i 0 0).symm.trans this
    have h2 : (i 2).val = j.val := by
      have := congrArg (fun v => (v 1).val) hi
      exact (Shape.ReducesTo.drop_apply_val_of_eq _ i 1 2).symm.trans this
    refine ⟨⟨(i 1).val, (i 1).isLt⟩, ?_⟩
    rwa [shapeCast_apply _ _ i (ix2 (rowAt s ⟨(i 1).val, (i 1).isLt⟩) j : S4096x2048.Idx) (by
      rw [Shape.rowMajor_val_three, Shape.rowMajor_val_two]
      show (1024 * s.val + (i 1).val) * 2048 + j.val = ((i 0).val * 1024 + (i 1).val) * 2048 + (i 2).val
      omega)] at hx

/-- The precondition on every device, with the same weights on every device, bounds every product. -/
theorem bounded_of_pre [hf : Cert.Pre_bounded_KernelIdeal.Facts] {m : (ℓ : Loc nD τ sig) → Buf (Elt Ideal) ℓ}
    (h : Cert.Pre_KernelIdeal_bounded_KernelIdeal m)
    (hw : ∀ c d : Dev nD, m ((c : Thread nD τ).loc main_arg1) = m ((d : Thread nD τ).loc main_arg1)) (c : Dev nD) : Bounded m c := by
  intro s R j
  rcases pre_at _ _ _ _ (h s) (rowAt c R) s j with ⟨k, hk⟩ | ⟨k, hk⟩
  · refine ⟨k, Or.inl ?_⟩
    rw [xE, xstg_eq]; exact hk
  · refine ⟨k, Or.inr ?_⟩
    rw [wE, wstg_eq, hw c s]; exact hk

end Cert.ScatterProof
end
-- ==== Proof.Equal.lean ====
/-
  The kernel's result is the reference's, over the reals.

  An element of the reference is a sum over 4096 positions. Cut into the four blocks of 1024 it is the sum the kernel's
  word holds; both are then multiplied by the product of the two scales.
-/
module
public import proofs.«01_k».proof.Proof.Inputs
public import proofs.«01_k».proof.Proof.Gen.ReferenceIdeal
public import Idealize.ShloMosaic.Lib.StackMember
public import Idealize.ShloMosaic.Lib.Layout

@[expose] public section
noncomputable section
namespace Cert.ScatterProof
open Cert.KernelIdeal Cert.KernelIdeal.Gen
open Idealize.ShloMosaic
open Idealize.ShloMosaic.TcCoe
open Idealize.ShloMosaic.ValueIdx
open Idealize.SL Idealize.SL.Sem
open scoped BigOperators

/-! ## Sums -/

/-- A sum of whole numbers, read as extended reals. -/
theorem coe_sum {ι : Type} (s : Finset ι) (f : ι → ℤ) : (((∑ k ∈ s, f k : ℤ) : ℝ) : EReal) = ∑ k ∈ s, ((f k : ℝ) : EReal) := by
  classical
  induction s using Finset.induction_on with
  | empty => simp
  | insert a s ha ih => rw [Finset.sum_insert ha, Finset.sum_insert ha, ← ih, Int.cast_add, EReal.coe_add]

/-- A sum over 4096 positions, block by block. -/
theorem sum_blocks (f : Fin 4096 → ℤ) : ∑ K : Fin 4096, f K = ∑ s : Dev nD, ∑ k : Fin 1024, f (rowAt s k) := by
  rw [← Equiv.sum_comp (finProdFinEquiv (m := 4) (n := 1024)) f, Fintype.sum_prod_type]
  refine Finset.sum_congr rfl fun s _ => Finset.sum_congr rfl fun k _ => congrArg f (Fin.ext ?_)
  show k.val + 1024 * s.val = 1024 * s.val + k.val
  omega

/-! ## The reference -/

section
variable (X : IVec ⟨2, ![4096, 4096]⟩ 8) (W : IVec S4096x2048 8) (a b : FVec Ideal S1 .f32)

/-- The reference's result, as its run leaves it. -/
def refVal : FVec Ideal S4096x2048 .f32 :=
  mulf (Host.dotGeneral Cert.ReferenceIdeal.dot_S4096x4096_S4096x2048_S4096x2048_1_0_0_1_n_n none
      (sitofp .f32 (extsi 32 X Cert.ReferenceIdeal.Gen.natLt_8_32)) (sitofp .f32 (extsi 32 W Cert.ReferenceIdeal.Gen.natLt_8_32)))
    (broadcastInDim S4096x2048 ![0, 1] Cert.ReferenceIdeal.Gen.bcast_S1x1_S4096x2048_0_1
      (broadcastInDim Cert.ReferenceIdeal.S1x1 ![1] Cert.ReferenceIdeal.Gen.bcast_S1_S1x1_1 (mulf a b)))

/-- An int8 word widened and converted is its signed value. -/
theorem widened_at {s : Shape} (x : IVec s 8) (h : 8 < 32) (i : s.Idx) :
    sitofp (F := Ideal) .f32 (extsi 32 x h) i = (((x i).toInt : ℝ) : EReal) := by
  show ((((x i).signExtend 32).toInt : ℝ) : EReal) = _
  rw [BitVec.toInt_signExtend_of_le (by decide)]

/-- An element of the reference. -/
theorem refVal_at (R : Fin 4096) (j : Fin 2048) : refVal X W a b (ix2 R j)
    = (((∑ K : Fin 4096, (X (ix2 R K)).toInt * (W (ix2 K j)).toInt : ℤ) : ℝ) : EReal) * (a (ix1 (0 : Fin 1)) * b (ix1 (0 : Fin 1))) := by
  have hd : Host.dotGeneral Cert.ReferenceIdeal.dot_S4096x4096_S4096x2048_S4096x2048_1_0_0_1_n_n none
      (sitofp (F := Ideal) .f32 (extsi 32 X Cert.ReferenceIdeal.Gen.natLt_8_32))
      (sitofp (F := Ideal) .f32 (extsi 32 W Cert.ReferenceIdeal.Gen.natLt_8_32)) (ix2 R j)
      = (((∑ K : Fin 4096, (X (ix2 R K)).toInt * (W (ix2 K j)).toInt : ℤ) : ℝ) : EReal) := by
    refine (StackMember.dotGeneral_plain_apply (m := 4096) (n := 2048) (k := 4096) none _ _ R j).trans ?_
    rw [coe_sum]
    refine Finset.sum_congr rfl fun K _ => ?_
    rw [widened_at, widened_at, Int.cast_mul, EReal.coe_mul]
  have hs : broadcastInDim S4096x2048 ![0, 1] Cert.ReferenceIdeal.Gen.bcast_S1x1_S4096x2048_0_1
      (broadcastInDim Cert.ReferenceIdeal.S1x1 ![1] Cert.ReferenceIdeal.Gen.bcast_S1_S1x1_1 (mulf a b)) (ix2 R j)
      = a (ix1 (0 : Fin 1)) * b (ix1 (0 : Fin 1)) := by
    refine (broadcastInDim_apply _ _ _ _ (ix2 (0 : Fin 1) (0 : Fin 1)) fun ax => ?_).trans
      ((broadcastInDim_apply _ _ _ _ (ix1 (0 : Fin 1)) fun ax => ?_).trans rfl)
    · match ax with
      | ⟨0, _⟩ => rfl
      | ⟨1, _⟩ => rfl
    · match ax with
      | ⟨0, _⟩ => rfl
  unfold refVal
  rw [mulf_apply, hd, hs]

end

/-! ## The two results -/

/-- Device `c`'s result is block `c` of the reference's. -/
theorem outAt_eq {m : (ℓ : Loc nD τ sig) → Buf (Elt Ideal) ℓ} (X : IVec ⟨2, ![4096, 4096]⟩ 8) (W : IVec S4096x2048 8)
    (a b : FVec Ideal S1 .f32)
    (hX : ∀ s : Dev nD, m ((s : Thread nD τ).loc main_arg0) = Layout.block ⟨2, ![4096, 1024]⟩ ⟨2, ![4096, 4096]⟩ 1 4 s X)
    (hW : ∀ s : Dev nD, m ((s : Thread nD τ).loc main_arg1) = W) (ha : ∀ s : Dev nD, m ((s : Thread nD τ).loc main_arg2) = a)
    (hb : ∀ s : Dev nD, m ((s : Thread nD τ).loc main_arg3) = b) (c : Dev nD) (B : Bounded m c) :
    outAt m c = Layout.block ⟨2, ![1024, 2048]⟩ ⟨2, ![4096, 2048]⟩ 0 4 c (refVal X W a b) := by
  funext i
  obtain ⟨R, j, rfl⟩ : ∃ (R : Fin 1024) (j : Fin 2048), i = ix2 R j := ⟨i 0, i 1, eq_ix2 i⟩
  have hx : ∀ (s : Dev nD) (k : Fin 1024), xE m s (rowAt c R) k = X (ix2 (rowAt c R) (rowAt s k)) := fun s k => by
    rw [xE, xstg_eq, hX s]
    refine congrArg X (Shape.idx_ext₂ rfl ?_)
    show s.val * 1024 + k.val = 1024 * s.val + k.val
    omega
  have hw : ∀ K, wE m c K j = W (ix2 K j) := fun K => by rw [wE, wstg_eq, hW c]
  have ht : ∑ s : Dev nD, term m c s R j = ∑ K : Fin 4096, (X (ix2 (rowAt c R) K)).toInt * (W (ix2 K j)).toInt := by
    rw [sum_blocks]
    exact Finset.sum_congr rfl fun s _ => Finset.sum_congr rfl fun k _ => by rw [hx, hw]
  have hblk : Layout.block ⟨2, ![1024, 2048]⟩ ⟨2, ![4096, 2048]⟩ 0 4 c (refVal X W a b) (by decide) (ix2 R j) = refVal X W a b (ix2 (rowAt c R) j) := by
    refine congrArg (refVal X W a b) (Shape.idx_ext₂ ?_ rfl)
    show c.val * 1024 + R.val = 1024 * c.val + R.val
    omega
  rw [hblk, refVal_at, outAt_word B, scl_eq, ha c, hb c, ← ht, ← word_toInt B]
  rfl

end Cert.ScatterProof
end
-- ==== Proof.lean ====
/-
  The claim, assembled.

  The kernel is a matrix product scattered over four devices: each holds a quarter of the columns of x (int8), all of
  w (int8) and two scales, and ends with a quarter of the rows of (x w) times the product of the scales.

  `Launch.run_region` is the whole run of the kernel on the four devices, for any float values: it ends, the arguments
  unchanged, every semaphore counter at zero and the result at `outAt`. The two frames of the kernel read it at the
  chip's floats and at the reals. `Equal.outAt_eq` is the equation with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.KernelIdeal Cert.KernelIdeal.Gen Cert.ScatterProof

section
variable {F : FTy → Type} [FloatOps F] {m : (ℓ : Loc nD τ sig) → Buf (Elt F) ℓ}

/-- A run that ends as `Ends` says leaves the four arguments as they were. -/
theorem args_kept {r : PUnit × MemSt nD τ sig (Elt F)} (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans ((dats (F := F) m 0 c).arrAt_in 0 rfl _), ((h c).1 1).trans ((dats (F := F) m 0 c).arrAt_in 1 rfl _),
    ((h c).1 2).trans ((dats (F := F) m 0 c).arrAt_in 2 rfl _), ((h c).1 3).trans ((dats (F := F) m 0 c).arrAt_in 3 rfl _)⟩

/-- The kernel runs, for any float values: the arguments unchanged, the counters at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨args_kept h.1, h.2⟩) (run_region m ρ)

end

set_option smartUnfolding false in
/-- On the chip's floats (the two programs have one text) … -/
theorem frame_kernel : Cert.quiescent_Kernel := fun m ρ _ => frame_any (F := Bits) m ρ

/-- … and on the reals, from any memory … -/
theorem frame_ideal : Cert.quiescent_KernelIdeal := fun m ρ _ => frame_any (F := Ideal) m ρ

/-- … so from a memory that meets the precondition. -/
theorem frame_ideal_bounded [hPre_bounded_KernelIdeal : Cert.Pre_bounded_KernelIdeal.Facts] : Cert.quiescent_KernelIdeal_pre_bounded_KernelIdeal :=
  fun m ρ _ => frame_ideal m ρ trivial

/-- The reference runs; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_bounded [hPre_bounded_ReferenceIdeal : Cert.Pre_bounded_ReferenceIdeal.Facts] : Cert.quiescent_ReferenceIdeal_pre_bounded_ReferenceIdeal :=
  fun m ρ _ => frame_reference m ρ trivial

/-- On the reals the kernel's result is the reference's, device `c` holding block `c` of its rows. -/
theorem equal [hPre_bounded_KernelIdeal : Cert.Pre_bounded_KernelIdeal.Facts] : Cert.algebraic_KernelIdeal_ReferenceIdeal_pre_bounded_KernelIdeal := by
  intro m ρ m' ρ' hpre harg
  refine ⟨refVal (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨?_, args_kept h.1 c⟩) (run_region (F := Ideal) m ρ)
    refine ((h.1 c).2).trans ?_
    exact outAt_eq _ _ _ _ (fun s => (harg s).1) (fun s => (harg s).2.1) (fun s => (harg s).2.2.1) (fun s => (harg s).2.2.2) c
      (bounded_of_pre hpre (fun c d => (harg c).2.1.trans (harg d).2.1.symm) c)
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts, preFacts, preFactsRef,
    frame_kernel, frame_ideal, frame_ideal_bounded (hPre_bounded_KernelIdeal := preFacts), frame_reference,
    frame_reference_bounded (hPre_bounded_ReferenceIdeal := preFactsRef), trivial, equal (hPre_bounded_KernelIdeal := preFacts)⟩

end Cert.Proof

end
